-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2x1x512x512 : Shape := ⟨5, ![2, 2, 1, 512, 512]⟩
abbrev S2x2x2x512x512 : Shape := ⟨5, ![2, 2, 2, 512, 512]⟩
abbrev S_ : Shape := ⟨0, ![]⟩
abbrev S3x3 : Shape := ⟨2, ![3, 3]⟩
abbrev S4x512x512 : Shape := ⟨3, ![4, 512, 512]⟩
abbrev S4x2x512x512 : Shape := ⟨4, ![4, 2, 512, 512]⟩
abbrev S4x36x512x512 : Shape := ⟨4, ![4, 36, 512, 512]⟩
abbrev S1x512x512 : Shape := ⟨3, ![1, 512, 512]⟩
abbrev S1x2x512x512 : Shape := ⟨4, ![1, 2, 512, 512]⟩
abbrev S1x36x128x512 : Shape := ⟨4, ![1, 36, 128, 512]⟩
abbrev S1x1x512 : Shape := ⟨3, ![1, 1, 512]⟩
abbrev S1x512 : Shape := ⟨2, ![1, 512]⟩
abbrev S1x128x512 : Shape := ⟨3, ![1, 128, 512]⟩
abbrev S128x512 : Shape := ⟨2, ![128, 512]⟩
abbrev S130x512 : Shape := ⟨2, ![130, 512]⟩
abbrev S1x1x128x512 : Shape := ⟨4, ![1, 1, 128, 512]⟩
abbrev S1x1 : Shape := ⟨2, ![1, 1]⟩
abbrev S128x511 : Shape := ⟨2, ![128, 511]⟩
abbrev S128x1 : Shape := ⟨2, ![128, 1]⟩
abbrev S2x2x3x3x4x512x512 : Shape := ⟨7, ![2, 2, 3, 3, 4, 512, 512]⟩

abbrev nBuf : Space → Nat
  | .hbm => 17
  | .vmem => 12
  | .smem => 1
  | _ => 0

abbrev bufTy : (tb : Table) → Fin (tcTables nBuf tb) → BufTy
  | .hbm, ⟨0, _⟩ => ⟨S2x2x1x512x512, .f32⟩
  | .hbm, ⟨1, _⟩ => ⟨S2x2x1x512x512, .f32⟩
  | .hbm, ⟨2, _⟩ => ⟨S2x2x1x512x512, .f32⟩
  | .hbm, ⟨3, _⟩ => ⟨S2x2x1x512x512, .f32⟩
  | .hbm, ⟨4, _⟩ => ⟨S2x2x2x512x512, .f32⟩
  | .hbm, ⟨5, _⟩ => ⟨S_, .i32⟩
  | .hbm, ⟨6, _⟩ => ⟨S3x3, .f32⟩
  | .hbm, ⟨7, _⟩ => ⟨S4x512x512, .f32⟩
  | .hbm, ⟨8, _⟩ => ⟨S4x512x512, .f32⟩
  | .hbm, ⟨9, _⟩ => ⟨S4x512x512, .f32⟩
  | .hbm, ⟨10, _⟩ => ⟨S4x512x512, .f32⟩
  | .hbm, ⟨11, _⟩ => ⟨S4x2x512x512, .f32⟩
  | .hbm, ⟨12, _⟩ => ⟨S4x2x512x512, .bf16⟩
  | .hbm, ⟨13, _⟩ => ⟨S3x3, .bf16⟩
  | .hbm, ⟨14, _⟩ => ⟨S3x3, .f32⟩
  | .hbm, ⟨15, _⟩ => ⟨S4x36x512x512, .f32⟩
  | .hbm, ⟨16, _⟩ => ⟨S2x2x3x3x4x512x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x2x512x512, .bf16⟩
  | .local _ .vmem, ⟨9, _⟩ => ⟨S1x2x512x512, .bf16⟩
  | .local _ .vmem, ⟨10, _⟩ => ⟨S1x36x128x512, .f32⟩
  | .local _ .vmem, ⟨11, _⟩ => ⟨S1x36x128x512, .f32⟩
  | .local _ .smem, ⟨0, _⟩ => ⟨S3x3, .f32⟩
  | _, _ => ⟨S2x2x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 4], ![false, false]⟩

def k0_off1 (i : grid0.Coords) : Fin 3 → Nat :=
  let c0 : Index := 0#32
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c512_i32 : BitVec 32 := 512#32
  let v2 : BitVec 32 := Scalar.addi v1 c512_i32
  let c512_i32_0 : BitVec 32 := 512#32
  let c0_i32 : BitVec 32 := 0#32
  let v3 : BitVec 1 := Scalar.cmpi .eq c512_i32_0 c0_i32
  let c1_i32_1 : BitVec 32 := 1#32
  let v4 : BitVec 32 := Scalar.select v3 c1_i32_1 c512_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v24 : Index := Scalar.indexCast v12
  let c0_12 : Index := 0#32
  ![0, v24.toNat, 0]
def k0_off2 (i : grid0.Coords) : Fin 3 → Nat :=
  let c0_13 : Index := 0#32
  let arg1 : BitVec 32 := BitVec.ofNat 32 (i 1).val
  let c128_i32 : BitVec 32 := 128#32
  let v0 : BitVec 32 := Scalar.muli arg1 c128_i32
  let v27 : Index := Scalar.indexCast v0
  let c0_14 : Index := 0#32
  ![0, v27.toNat, 0]
def k0_off3 (i : grid0.Coords) : Fin 3 → Nat :=
  let c0_15 : Index := 0#32
  let arg1 : BitVec 32 := BitVec.ofNat 32 (i 1).val
  let c128_i32 : BitVec 32 := 128#32
  let v0 : BitVec 32 := Scalar.muli arg1 c128_i32
  let c128_i32_5 : BitVec 32 := 128#32
  let v13 : BitVec 32 := Scalar.addi v0 c128_i32_5
  let c512_i32_6 : BitVec 32 := 512#32
  let c0_i32_7 : BitVec 32 := 0#32
  let v14 : BitVec 1 := Scalar.cmpi .eq c512_i32_6 c0_i32_7
  let c1_i32_8 : BitVec 32 := 1#32
  let v15 : BitVec 32 := Scalar.select v14 c1_i32_8 c512_i32_6
  let v16 : BitVec 32 := Scalar.remsi v13 v15
  let c0_i32_10 : BitVec 32 := 0#32
  let v18 : BitVec 1 := Scalar.cmpi .slt v16 c0_i32_10
  let c0_i32_11 : BitVec 32 := 0#32
  let v19 : BitVec 1 := Scalar.cmpi .slt v15 c0_i32_11
  let v20 : BitVec 1 := Scalar.xori v18 v19
  let c0_i32_9 : BitVec 32 := 0#32
  let v17 : BitVec 1 := Scalar.cmpi .ne v16 c0_i32_9
  let v21 : BitVec 1 := Scalar.andi v20 v17
  let v22 : BitVec 32 := Scalar.addi v16 v15
  let v23 : BitVec 32 := Scalar.select v21 v22 v16
  let v30 : Index := Scalar.indexCast v23
  let c0_16 : Index := 0#32
  ![0, v30.toNat, 0]
def k0_off4 (i : grid0.Coords) : Fin 4 → Nat :=
  let c0_31 : Index := 0#32
  let c0_32 : Index := 0#32
  let arg1 : BitVec 32 := BitVec.ofNat 32 (i 1).val
  let c128_i32 : BitVec 32 := 128#32
  let v0 : BitVec 32 := Scalar.muli arg1 c128_i32
  let v60 : Index := Scalar.indexCast v0
  let c0_33 : Index := 0#32
  ![0, 0, v60.toNat, 0]
def k0_off5 (i : grid0.Coords) : Fin 4 → Nat :=
  let c0_34 : Index := 0#32
  let c1 : Index := 1#32
  let arg1 : BitVec 32 := BitVec.ofNat 32 (i 1).val
  let c128_i32 : BitVec 32 := 128#32
  let v0 : BitVec 32 := Scalar.muli arg1 c128_i32
  let v64 : Index := Scalar.indexCast v0
  let c0_35 : Index := 0#32
  ![0, 1, v64.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 1 → Memref sig .tc .smem S3x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x36x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S2x2x1x512x512 : Shape := ⟨5, ![2, 2, 1, 512, 512]⟩
abbrev S2x2x2x512x512 : Shape := ⟨5, ![2, 2, 2, 512, 512]⟩
abbrev S_ : Shape := ⟨0, ![]⟩
abbrev S3x3 : Shape := ⟨2, ![3, 3]⟩
abbrev S2x2x3x512x512 : Shape := ⟨5, ![2, 2, 3, 512, 512]⟩
abbrev S2x2x512x512x3 : Shape := ⟨5, ![2, 2, 512, 512, 3]⟩
abbrev S2x2x3x511x512 : Shape := ⟨5, ![2, 2, 3, 511, 512]⟩
abbrev S2x2x3x1x512 : Shape := ⟨5, ![2, 2, 3, 1, 512]⟩
abbrev S2x2x3x512x511 : Shape := ⟨5, ![2, 2, 3, 512, 511]⟩
abbrev S2x2x3x512x1 : Shape := ⟨5, ![2, 2, 3, 512, 1]⟩
abbrev S2x2x512x512 : Shape := ⟨4, ![2, 2, 512, 512]⟩
abbrev S2x2x3x512x0 : Shape := ⟨5, ![2, 2, 3, 512, 0]⟩
abbrev S2x2x3x0x512 : Shape := ⟨5, ![2, 2, 3, 0, 512]⟩
abbrev S2x2x9x512x512 : Shape := ⟨5, ![2, 2, 9, 512, 512]⟩
abbrev S2x2x512x512x1 : Shape := ⟨5, ![2, 2, 512, 512, 1]⟩
abbrev S1x1x1x1x9 : Shape := ⟨5, ![1, 1, 1, 1, 9]⟩
abbrev S2x2x512x512x9 : Shape := ⟨5, ![2, 2, 512, 512, 9]⟩
abbrev S1 : Shape := ⟨1, ![1]⟩
abbrev S2x2x3x3x1x512x512 : Shape := ⟨7, ![2, 2, 3, 3, 1, 512, 512]⟩
abbrev S2x2x1x1x3x512x512 : Shape := ⟨7, ![2, 2, 1, 1, 3, 512, 512]⟩
abbrev S2x2x3x3x3x512x512 : Shape := ⟨7, ![2, 2, 3, 3, 3, 512, 512]⟩
abbrev S2x2x3x3x4x512x512 : Shape := ⟨7, ![2, 2, 3, 3, 4, 512, 512]⟩

abbrev nBuf : Space → Nat
  | .hbm => 204
  | .vmem => 0
  | .smem => 0
  | _ => 0

abbrev hbmTy0_0 (i : Nat) : BufTy := match i % 128 with
  | 0 => ⟨S2x2x1x512x512, .f32⟩
  | 1 => ⟨S2x2x1x512x512, .f32⟩
  | 2 => ⟨S2x2x1x512x512, .f32⟩
  | 3 => ⟨S2x2x1x512x512, .f32⟩
  | 4 => ⟨S2x2x2x512x512, .f32⟩
  | 5 => ⟨S_, .i32⟩
  | 6 => ⟨S3x3, .f32⟩
  | 7 => ⟨S2x2x3x512x512, .f32⟩
  | 8 => ⟨S2x2x3x512x512, .f32⟩
  | 9 => ⟨S2x2x1x512x512, .f32⟩
  | 10 => ⟨S2x2x1x512x512, .f32⟩
  | 11 => ⟨S_, .f32⟩
  | 12 => ⟨S2x2x1x512x512, .f32⟩
  | 13 => ⟨S2x2x3x512x512, .f32⟩
  | 14 => ⟨S2x2x512x512x3, .f32⟩
  | 15 => ⟨S2x2x3x512x512, .f32⟩
  | 16 => ⟨S2x2x3x512x512, .f32⟩
  | 17 => ⟨S2x2x3x512x512, .f32⟩
  | 18 => ⟨S2x2x3x511x512, .f32⟩
  | 19 => ⟨S2x2x3x1x512, .f32⟩
  | 20 => ⟨S2x2x3x512x512, .f32⟩
  | 21 => ⟨S2x2x3x512x511, .f32⟩
  | 22 => ⟨S2x2x3x512x1, .f32⟩
  | 23 => ⟨S2x2x3x512x512, .f32⟩
  | 24 => ⟨S2x2x3x512x512, .f32⟩
  | 25 => ⟨S2x2x3x512x512, .f32⟩
  | 26 => ⟨S_, .f32⟩
  | 27 => ⟨S2x2x512x512, .f32⟩
  | 28 => ⟨S2x2x3x511x512, .f32⟩
  | 29 => ⟨S2x2x3x1x512, .f32⟩
  | 30 => ⟨S2x2x3x512x512, .f32⟩
  | 31 => ⟨S2x2x3x512x512, .f32⟩
  | 32 => ⟨S2x2x3x512x0, .f32⟩
  | 33 => ⟨S2x2x3x512x512, .f32⟩
  | 34 => ⟨S2x2x3x512x512, .f32⟩
  | 35 => ⟨S2x2x3x512x512, .f32⟩
  | 36 => ⟨S_, .f32⟩
  | 37 => ⟨S2x2x512x512, .f32⟩
  | 38 => ⟨S2x2x3x511x512, .f32⟩
  | 39 => ⟨S2x2x3x1x512, .f32⟩
  | 40 => ⟨S2x2x3x512x512, .f32⟩
  | 41 => ⟨S2x2x3x512x1, .f32⟩
  | 42 => ⟨S2x2x3x512x511, .f32⟩
  | 43 => ⟨S2x2x3x512x512, .f32⟩
  | 44 => ⟨S2x2x3x512x512, .f32⟩
  | 45 => ⟨S2x2x3x512x512, .f32⟩
  | 46 => ⟨S_, .f32⟩
  | 47 => ⟨S2x2x512x512, .f32⟩
  | 48 => ⟨S2x2x3x512x512, .f32⟩
  | 49 => ⟨S2x2x3x0x512, .f32⟩
  | 50 => ⟨S2x2x3x512x512, .f32⟩
  | 51 => ⟨S2x2x3x512x511, .f32⟩
  | 52 => ⟨S2x2x3x512x1, .f32⟩
  | 53 => ⟨S2x2x3x512x512, .f32⟩
  | 54 => ⟨S2x2x3x512x512, .f32⟩
  | 55 => ⟨S2x2x3x512x512, .f32⟩
  | 56 => ⟨S_, .f32⟩
  | 57 => ⟨S2x2x512x512, .f32⟩
  | 58 => ⟨S2x2x3x512x512, .f32⟩
  | 59 => ⟨S2x2x3x0x512, .f32⟩
  | 60 => ⟨S2x2x3x512x512, .f32⟩
  | 61 => ⟨S2x2x3x512x512, .f32⟩
  | 62 => ⟨S2x2x3x512x0, .f32⟩
  | 63 => ⟨S2x2x3x512x512, .f32⟩
  | 64 => ⟨S2x2x3x512x512, .f32⟩
  | 65 => ⟨S2x2x3x512x512, .f32⟩
  | 66 => ⟨S_, .f32⟩
  | 67 => ⟨S2x2x512x512, .f32⟩
  | 68 => ⟨S2x2x3x512x512, .f32⟩
  | 69 => ⟨S2x2x3x0x512, .f32⟩
  | 70 => ⟨S2x2x3x512x512, .f32⟩
  | 71 => ⟨S2x2x3x512x1, .f32⟩
  | 72 => ⟨S2x2x3x512x511, .f32⟩
  | 73 => ⟨S2x2x3x512x512, .f32⟩
  | 74 => ⟨S2x2x3x512x512, .f32⟩
  | 75 => ⟨S2x2x3x512x512, .f32⟩
  | 76 => ⟨S_, .f32⟩
  | 77 => ⟨S2x2x512x512, .f32⟩
  | 78 => ⟨S2x2x3x1x512, .f32⟩
  | 79 => ⟨S2x2x3x511x512, .f32⟩
  | 80 => ⟨S2x2x3x512x512, .f32⟩
  | 81 => ⟨S2x2x3x512x511, .f32⟩
  | 82 => ⟨S2x2x3x512x1, .f32⟩
  | 83 => ⟨S2x2x3x512x512, .f32⟩
  | 84 => ⟨S2x2x3x512x512, .f32⟩
  | 85 => ⟨S2x2x3x512x512, .f32⟩
  | 86 => ⟨S_, .f32⟩
  | 87 => ⟨S2x2x512x512, .f32⟩
  | 88 => ⟨S2x2x3x1x512, .f32⟩
  | 89 => ⟨S2x2x3x511x512, .f32⟩
  | 90 => ⟨S2x2x3x512x512, .f32⟩
  | 91 => ⟨S2x2x3x512x512, .f32⟩
  | 92 => ⟨S2x2x3x512x0, .f32⟩
  | 93 => ⟨S2x2x3x512x512, .f32⟩
  | 94 => ⟨S2x2x3x512x512, .f32⟩
  | 95 => ⟨S2x2x3x512x512, .f32⟩
  | 96 => ⟨S_, .f32⟩
  | 97 => ⟨S2x2x512x512, .f32⟩
  | 98 => ⟨S2x2x3x1x512, .f32⟩
  | 99 => ⟨S2x2x3x511x512, .f32⟩
  | 100 => ⟨S2x2x3x512x512, .f32⟩
  | 101 => ⟨S2x2x3x512x1, .f32⟩
  | 102 => ⟨S2x2x3x512x511, .f32⟩
  | 103 => ⟨S2x2x3x512x512, .f32⟩
  | 104 => ⟨S2x2x3x512x512, .f32⟩
  | 105 => ⟨S2x2x3x512x512, .f32⟩
  | 106 => ⟨S_, .f32⟩
  | 107 => ⟨S2x2x512x512, .f32⟩
  | 108 => ⟨S2x2x1x512x512, .f32⟩
  | 109 => ⟨S2x2x1x512x512, .f32⟩
  | 110 => ⟨S2x2x1x512x512, .f32⟩
  | 111 => ⟨S2x2x1x512x512, .f32⟩
  | 112 => ⟨S2x2x1x512x512, .f32⟩
  | 113 => ⟨S2x2x1x512x512, .f32⟩
  | 114 => ⟨S2x2x1x512x512, .f32⟩
  | 115 => ⟨S2x2x1x512x512, .f32⟩
  | 116 => ⟨S2x2x1x512x512, .f32⟩
  | 117 => ⟨S2x2x9x512x512, .f32⟩
  | 118 => ⟨S2x2x9x512x512, .f32⟩
  | 119 => ⟨S2x2x9x512x512, .i32⟩
  | 120 => ⟨S_, .f32⟩
  | 121 => ⟨S_, .i32⟩
  | 122 => ⟨S2x2x512x512, .f32⟩
  | 123 => ⟨S2x2x512x512, .i32⟩
  | 124 => ⟨S2x2x512x512x1, .i32⟩
  | 125 => ⟨S1x1x1x1x9, .i32⟩
  | 126 => ⟨S2x2x512x512x9, .i32⟩
  | 127 => ⟨S2x2x512x512x9, .i32⟩
  | _ => ⟨S2x2x1x512x512, .f32⟩

abbrev hbmTy0_1 (i : Nat) : BufTy := match i % 128 with
  | 0 => ⟨S2x2x512x512x9, .i1⟩
  | 1 => ⟨S2x2x512x512x9, .f32⟩
  | 2 => ⟨S2x2x9x512x512, .f32⟩
  | 3 => ⟨S_, .f32⟩
  | 4 => ⟨S2x2x1x512x512, .f32⟩
  | 5 => ⟨S2x2x1x512x512, .i1⟩
  | 6 => ⟨S2x2x1x512x512, .f32⟩
  | 7 => ⟨S_, .f32⟩
  | 8 => ⟨S2x2x1x512x512, .f32⟩
  | 9 => ⟨S2x2x1x512x512, .i1⟩
  | 10 => ⟨S2x2x1x512x512, .f32⟩
  | 11 => ⟨S2x2x1x512x512, .f32⟩
  | 12 => ⟨S_, .f32⟩
  | 13 => ⟨S2x2x9x512x512, .f32⟩
  | 14 => ⟨S2x2x9x512x512, .f32⟩
  | 15 => ⟨S2x2x9x512x512, .f32⟩
  | 16 => ⟨S2x2x9x512x512, .f32⟩
  | 17 => ⟨S_, .f32⟩
  | 18 => ⟨S2x2x9x512x512, .f32⟩
  | 19 => ⟨S2x2x9x512x512, .i1⟩
  | 20 => ⟨S_, .f32⟩
  | 21 => ⟨S2x2x9x512x512, .f32⟩
  | 22 => ⟨S2x2x9x512x512, .f32⟩
  | 23 => ⟨S_, .f32⟩
  | 24 => ⟨S2x2x9x512x512, .f32⟩
  | 25 => ⟨S_, .i32⟩
  | 26 => ⟨S1, .i32⟩
  | 27 => ⟨S_, .f32⟩
  | 28 => ⟨S2x2x512x512, .f32⟩
  | 29 => ⟨S2x2x9x512x512, .f32⟩
  | 30 => ⟨S_, .f32⟩
  | 31 => ⟨S2x2x1x512x512, .f32⟩
  | 32 => ⟨S2x2x1x512x512, .i1⟩
  | 33 => ⟨S2x2x1x512x512, .f32⟩
  | 34 => ⟨S_, .f32⟩
  | 35 => ⟨S2x2x1x512x512, .f32⟩
  | 36 => ⟨S2x2x1x512x512, .i1⟩
  | 37 => ⟨S2x2x1x512x512, .i1⟩
  | 38 => ⟨S2x2x1x512x512, .f32⟩
  | 39 => ⟨S2x2x1x512x512, .f32⟩
  | 40 => ⟨S_, .f32⟩
  | 41 => ⟨S2x2x9x512x512, .f32⟩
  | 42 => ⟨S2x2x9x512x512, .f32⟩
  | 43 => ⟨S_, .f32⟩
  | 44 => ⟨S2x2x1x512x512, .f32⟩
  | 45 => ⟨S2x2x1x512x512, .f32⟩
  | 46 => ⟨S2x2x9x512x512, .f32⟩
  | 47 => ⟨S2x2x9x512x512, .f32⟩
  | 48 => ⟨S_, .f32⟩
  | 49 => ⟨S2x2x9x512x512, .f32⟩
  | 50 => ⟨S2x2x9x512x512, .i1⟩
  | 51 => ⟨S2x2x9x512x512, .f32⟩
  | 52 => ⟨S_, .f32⟩
  | 53 => ⟨S2x2x9x512x512, .f32⟩
  | 54 => ⟨S2x2x9x512x512, .f32⟩
  | 55 => ⟨S2x2x3x3x1x512x512, .f32⟩
  | 56 => ⟨S2x2x1x1x3x512x512, .f32⟩
  | 57 => ⟨S2x2x3x3x3x512x512, .f32⟩
  | 58 => ⟨S2x2x3x3x3x512x512, .f32⟩
  | 59 => ⟨S2x2x3x3x3x512x512, .f32⟩
  | 60 => ⟨S_, .f32⟩
  | 61 => ⟨S2x2x9x512x512, .f32⟩
  | 62 => ⟨S2x2x9x512x512, .f32⟩
  | 63 => ⟨S2x2x9x512x512, .f32⟩
  | 64 => ⟨S2x2x9x512x512, .f32⟩
  | 65 => ⟨S_, .f32⟩
  | 66 => ⟨S2x2x9x512x512, .f32⟩
  | 67 => ⟨S2x2x9x512x512, .i1⟩
  | 68 => ⟨S2x2x9x512x512, .f32⟩
  | 69 => ⟨S_, .f32⟩
  | 70 => ⟨S2x2x9x512x512, .f32⟩
  | 71 => ⟨S2x2x9x512x512, .f32⟩
  | 72 => ⟨S2x2x9x512x512, .f32⟩
  | 73 => ⟨S2x2x9x512x512, .f32⟩
  | 74 => ⟨S2x2x3x3x1x512x512, .f32⟩
  | 75 => ⟨S2x2x3x3x4x512x512, .f32⟩
  | _ => ⟨S2x2x1x512x512, .f32⟩

abbrev hbmTy (i : Nat) : BufTy := match i / 128 with
  | 0 => hbmTy0_0 i
  | 1 => hbmTy0_1 i
  | _ => ⟨S2x2x1x512x512, .f32⟩

abbrev bufTy : (tb : Table) → Fin (tcTables nBuf tb) → BufTy
  | .hbm, ⟨i, _⟩ => hbmTy i
  | _, _ => ⟨S2x2x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_1 : Ref sig .tc := ⟨.hbm, 36, rfl⟩
abbrev main_v17 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_2 : Ref sig .tc := ⟨.hbm, 46, rfl⟩
abbrev main_v21 : Ref sig .tc := ⟨.hbm, 47, rfl⟩
abbrev main_call3_v0 : Ref sig .tc := ⟨.hbm, 48, rfl⟩
abbrev main_call3_v1 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_cst_3 : Ref sig .tc := ⟨.hbm, 56, rfl⟩
abbrev main_v25 : Ref sig .tc := ⟨.hbm, 57, rfl⟩
abbrev main_call4_v0 : Ref sig .tc := ⟨.hbm, 58, rfl⟩
abbrev main_call4_v1 : Ref sig .tc := ⟨.hbm, 59, rfl⟩
abbrev main_call4_v2 : Ref sig .tc := ⟨.hbm, 60, rfl⟩
abbrev main_call4_v3 : Ref sig .tc := ⟨.hbm, 61, rfl⟩
abbrev main_call4_v4 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_cst_4 : Ref sig .tc := ⟨.hbm, 66, rfl⟩
abbrev main_v29 : Ref sig .tc := ⟨.hbm, 67, rfl⟩
abbrev main_call5_v0 : Ref sig .tc := ⟨.hbm, 68, rfl⟩
abbrev main_call5_v1 : Ref sig .tc := ⟨.hbm, 69, rfl⟩
abbrev main_call5_v2 : Ref sig .tc := ⟨.hbm, 70, rfl⟩
abbrev main_call5_v3 : Ref sig .tc := ⟨.hbm, 71, rfl⟩
abbrev main_call5_v4 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_cst_5 : Ref sig .tc := ⟨.hbm, 76, rfl⟩
abbrev main_v33 : Ref sig .tc := ⟨.hbm, 77, rfl⟩
abbrev main_call6_v0 : Ref sig .tc := ⟨.hbm, 78, rfl⟩
abbrev main_call6_v1 : Ref sig .tc := ⟨.hbm, 79, rfl⟩
abbrev main_call6_v2 : Ref sig .tc := ⟨.hbm, 80, rfl⟩
abbrev main_call6_v3 : Ref sig .tc := ⟨.hbm, 81, rfl⟩
abbrev main_call6_v4 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_cst_6 : Ref sig .tc := ⟨.hbm, 86, rfl⟩
abbrev main_v37 : Ref sig .tc := ⟨.hbm, 87, rfl⟩
abbrev main_call7_v0 : Ref sig .tc := ⟨.hbm, 88, rfl⟩
abbrev main_call7_v1 : Ref sig .tc := ⟨.hbm, 89, rfl⟩
abbrev main_call7_v2 : Ref sig .tc := ⟨.hbm, 90, rfl⟩
abbrev main_call7_v3 : Ref sig .tc := ⟨.hbm, 91, rfl⟩
abbrev main_call7_v4 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_cst_7 : Ref sig .tc := ⟨.hbm, 96, rfl⟩
abbrev main_v41 : Ref sig .tc := ⟨.hbm, 97, rfl⟩
abbrev main_call8_v0 : Ref sig .tc := ⟨.hbm, 98, rfl⟩
abbrev main_call8_v1 : Ref sig .tc := ⟨.hbm, 99, rfl⟩
abbrev main_call8_v2 : Ref sig .tc := ⟨.hbm, 100, rfl⟩
abbrev main_call8_v3 : Ref sig .tc := ⟨.hbm, 101, rfl⟩
abbrev main_call8_v4 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_cst_8 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_call9_v0 : Ref sig .tc := ⟨.hbm, 119, rfl⟩
abbrev main_call9_cst : Ref sig .tc := ⟨.hbm, 120, rfl⟩
abbrev main_call9_c : Ref sig .tc := ⟨.hbm, 121, rfl⟩
abbrev main_call9_v1_0 : Ref sig .tc := ⟨.hbm, 122, rfl⟩
abbrev main_v57 : Ref sig .tc := ⟨.hbm, 123, rfl⟩
abbrev main_call10_v0 : Ref sig .tc := ⟨.hbm, 124, rfl⟩
abbrev main_call10_v1 : Ref sig .tc := ⟨.hbm, 125, rfl⟩
abbrev main_call10_v2 : Ref sig .tc := ⟨.hbm, 126, rfl⟩
abbrev main_call10_v3 : Ref sig .tc := ⟨.hbm, 127, rfl⟩
abbrev main_call10_v4 : Ref sig .tc := ⟨.hbm, 128, rfl⟩
abbrev main_v58 : Ref sig .tc := ⟨.hbm, 129, rfl⟩
abbrev main_v59 : Ref sig .tc := ⟨.hbm, 130, rfl⟩
abbrev main_cst_9 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_cst_10 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_cst_11 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_cst_12 : Ref sig .tc := ⟨.hbm, 145, rfl⟩
abbrev main_v71 : Ref sig .tc := ⟨.hbm, 146, rfl⟩
abbrev main_v72 : Ref sig .tc := ⟨.hbm, 147, rfl⟩
abbrev main_cst_13 : Ref sig .tc := ⟨.hbm, 148, rfl⟩
abbrev main_v73 : Ref sig .tc := ⟨.hbm, 149, rfl⟩
abbrev main_v74 : Ref sig .tc := ⟨.hbm, 150, rfl⟩
abbrev main_cst_14 : Ref sig .tc := ⟨.hbm, 151, rfl⟩
abbrev main_v75 : Ref sig .tc := ⟨.hbm, 152, rfl⟩
abbrev main_c : Ref sig .tc := ⟨.hbm, 153, rfl⟩
abbrev main_v76 : Ref sig .tc := ⟨.hbm, 154, rfl⟩
abbrev main_cst_15 : Ref sig .tc := ⟨.hbm, 155, rfl⟩
abbrev main_v77 : Ref sig .tc := ⟨.hbm, 156, rfl⟩
abbrev main_v78 : Ref sig .tc := ⟨.hbm, 157, rfl⟩
abbrev main_cst_16 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_cst_17 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_cst_18 : Ref sig .tc := ⟨.hbm, 168, rfl⟩
abbrev main_v87 : Ref sig .tc := ⟨.hbm, 169, rfl⟩
abbrev main_v88 : Ref sig .tc := ⟨.hbm, 170, rfl⟩
abbrev main_cst_19 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_cst_20 : Ref sig .tc := ⟨.hbm, 176, rfl⟩
abbrev main_v93 : Ref sig .tc := ⟨.hbm, 177, rfl⟩
abbrev main_v94 : Ref sig .tc := ⟨.hbm, 178, rfl⟩
abbrev main_v95 : Ref sig .tc := ⟨.hbm, 179, rfl⟩
abbrev main_cst_21 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_v101 : Ref sig .tc := ⟨.hbm, 186, rfl⟩
abbrev main_v102 : Ref sig .tc := ⟨.hbm, 187, rfl⟩
abbrev main_cst_22 : Ref sig .tc := ⟨.hbm, 188, rfl⟩
abbrev main_v103 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_cst_23 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_cst_24 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩

abbrev nD : Nat := 1
abbrev τ : Topo := Topo.v7x

variable {F : FTy → Type} [FloatOps F]
-- ==== Proof.Spec.lean ====
/-
  What one pixel's result is, over the extended reals, with no program in sight: nine squared distances, the index of the first least one, and
  the 36 numbers stored for the pixel.
-/
module

public import Idealize.ShloMosaic.PureOps.Ideal
public import Idealize.ShloMosaic.Lib.Pointwise

@[expose] public section

noncomputable section

namespace Cert.Spec

open Idealize.ShloMosaic

/-- The squared distance of two points of space. -/
def dist3 (x y z a b c : EReal) : EReal := (x - a) * (x - a) + (y - b) * (y - b) + (z - c) * (z - c)

/-- The row (or column) that candidate digit `d` (0, 1, 2 for the shifts -1, 0, 1) looks at from `i`, the image wrapping round. -/
def nb (d : ℕ) (i : Fin 512) : Fin 512 := ⟨(i.val + 513 - d % 3) % 512, Nat.mod_lt _ (by decide)⟩

/-- The least of `d 0 … d k`, a later value taken only when strictly less. -/
def lo (d : ℕ → EReal) : ℕ → EReal
  | 0 => d 0
  | k + 1 => if d (k + 1) < lo d k then d (k + 1) else lo d k

/-- The index of that least value: the first one where it is met. -/
def arg (d : ℕ → EReal) : ℕ → BitVec 32
  | 0 => 0#32
  | k + 1 => if d (k + 1) < lo d k then BitVec.ofNat 32 (k + 1) else arg d k

theorem lo_succ (d : ℕ → EReal) (k : ℕ) : lo d (k + 1) = if d (k + 1) < lo d k then d (k + 1) else lo d k := rfl

theorem arg_succ (d : ℕ → EReal) (k : ℕ) : arg d (k + 1) = if d (k + 1) < lo d k then BitVec.ofNat 32 (k + 1) else arg d k := rfl

/-- One half, as the two programs write it. -/
def half : EReal := Ideal.ofBits .f32 0x3F000000#32

/-- The candidate a pixel keeps: the nearest where mask and depth hold, the centre elsewhere. -/
def pick (d : ℕ → EReal) (z r : EReal) : BitVec 32 := if half < r ∧ 0 < z then arg d 8 else 4#32

/-- The point channel of candidate `s`: the coordinate `v` where the pixel keeps `s` and its mask holds. -/
def chan (d : ℕ → EReal) (z r v : EReal) (s : ℕ) : EReal :=
  if pick d z r = BitVec.ofNat 32 s then (if half < r then v else 0) else 0

/-- The mask channel of candidate `s`: the mask where the pixel keeps `s`. -/
def mask (d : ℕ → EReal) (z r : EReal) (s : ℕ) : EReal :=
  if pick d z r = BitVec.ofNat 32 s then r else 0

/-- The row of candidate `k` beside row `i`. -/
def near (k : ℕ) (i : Fin 512) : Fin 512 := ⟨(i.val + 511 + (2 - k / 3)) % 512, Nat.mod_lt _ (by decide)⟩

variable (K : Fin 3 → Fin 3 → EReal) (U V : Fin 512 → Fin 512 → EReal) (X Y Z R : Fin 512 → Fin 512 → EReal)

/-- Coordinate `e` of the pixel's ray at depth `z`. -/
def far (e : Fin 3) (i j : Fin 512) (z : EReal) : EReal := ((K e 0 * U i j + K e 1 * V i j) + K e 2) * z

/-- The squared distance from candidate `k`'s point to the pixel's own ray point. -/
def dist (i j : Fin 512) (k : ℕ) : EReal :=
  dist3 (X (near k i) (nb k j)) (Y (near k i) (nb k j)) (Z (near k i) (nb k j)) (far K U V 0 i j (Z i j)) (far K U V 1 i j (Z i j))
    (far K U V 2 i j (Z i j))

/-- The result at channel `c` of pixel `(i, j)` of an image: four channels per candidate, the three coordinates and the mask. -/
def cell (c : ℕ) (i j : Fin 512) : EReal :=
  if c % 4 = 0 then chan (dist K U V X Y Z i j) (Z i j) (R i j) (X i j) (c / 4)
  else if c % 4 = 1 then chan (dist K U V X Y Z i j) (Z i j) (R i j) (Y i j) (c / 4)
  else if c % 4 = 2 then chan (dist K U V X Y Z i j) (Z i j) (R i j) (Z i j) (c / 4)
  else mask (dist K U V X Y Z i j) (Z i j) (R i j) (c / 4)

/-- Image `n` of a `(2, 2, 1, 512, 512)` argument. -/
def image (A : (⟨5, ![2, 2, 1, 512, 512]⟩ : Shape).Idx → EReal) (n : Fin 4) (i j : Fin 512) : EReal :=
  A (ix5 ⟨n.val / 2, by omega⟩ ⟨n.val % 2, by omega⟩ 0 i j)

/-- Panel `e` of image `n` of the `(2, 2, 2, 512, 512)` argument. -/
def panel (A : (⟨5, ![2, 2, 2, 512, 512]⟩ : Shape).Idx → EReal) (e : Fin 2) (n : Fin 4) (i j : Fin 512) : EReal :=
  A (ix5 ⟨n.val / 2, by omega⟩ ⟨n.val % 2, by omega⟩ e i j)

/-- The whole result at channel `c` of pixel `(i, j)` of image `n`, from the arguments' arrays: the coordinates, the mask, the panels, the camera. -/
def value (x y z r : (⟨5, ![2, 2, 1, 512, 512]⟩ : Shape).Idx → EReal) (p : (⟨5, ![2, 2, 2, 512, 512]⟩ : Shape).Idx → EReal)
    (k : (⟨2, ![3, 3]⟩ : Shape).Idx → EReal) (n : Fin 4) (c : ℕ) (i j : Fin 512) : EReal :=
  cell (fun a b => k (ix2 a b)) (panel p 0 n) (panel p 1 n) (image x n) (image y n) (image z n) (image r n) c i j

/-- A choice between two words by the conjunction of two bits is the choice by the conjunction of what they say. -/
theorem select_and {α : Type} (A B : Prop) [Decidable A] [Decidable B] (x y : α) :
    Scalar.select (IntOp.andi (BitVec.ofBool (decide A)) (BitVec.ofBool (decide B))) x y = if A ∧ B then x else y := by
  by_cases hA : A <;> by_cases hB : B <;> simp [hA, hB, Scalar.select, IntOp.andi]

end Cert.Spec

end
-- ==== Proof.Block.lean ====
/-
  What one grid point's body computes, at one pixel of its tile: the nine distances, the index kept, over the tile's padded planes.
-/
module

public import proofs.«01_k».proof.Proof.Gen.KernelIdeal.Frame
public import proofs.«01_k».proof.Proof.Spec
public import Idealize.ShloMosaic.Lib.Pipeline.ValueKit
public import Idealize.ShloMosaic.Lib.Pointwise

@[expose] public section

noncomputable section

namespace Cert.KernelIdeal.Block

open Cert.KernelIdeal Cert.KernelIdeal.Gen Cert.Spec Idealize.ShloMosaic Idealize.ShloMosaic.TcCoe Idealize.SL.Sem

variable (P Q R : FVec Ideal S130x512 .f32) (a b c z r : FVec Ideal S128x512 .f32)

/-- The distance at a pixel to candidate `k` of the padded planes: two rows down for the first three, one for the next, none for the last. -/
def gap (p : Fin 128) (q : Fin 512) (k : ℕ) : EReal :=
  dist3 (P (ix2 ⟨p.val + (2 - k / 3), by omega⟩ (nb k q))) (Q (ix2 ⟨p.val + (2 - k / 3), by omega⟩ (nb k q)))
    (R (ix2 ⟨p.val + (2 - k / 3), by omega⟩ (nb k q))) (a (ix2 p q)) (b (ix2 p q)) (c (ix2 p q))

variable (p : Fin 128) (q : Fin 512)

theorem gap1_at : k0_pay26 (F := Ideal) a b c (k0_pay19 P) (k0_pay20 Q) (k0_pay21 R) (ix2 p q) = gap P Q R a b c p q 1 := by
  pointwise [k0_pay26, k0_pay19, k0_pay20, k0_pay21, gap, dist3, nb]
  blk_point []

theorem gap2_at : k0_pay29 (F := Ideal) a b c (k0_pay19 P) (k0_pay20 Q) (k0_pay21 R) (ix2 p q) = gap P Q R a b c p q 2 := by
  pointwise [k0_pay29, k0_pay19, k0_pay20, k0_pay21, gap, dist3, nb]
  blk_point []

theorem gap3_at : k0_pay36 (F := Ideal) P Q R a b c (ix2 p q) = gap P Q R a b c p q 3 := by
  pointwise [k0_pay36, k0_pay33, k0_pay34, k0_pay35, gap, dist3, nb]
  blk_point []

theorem gap4_at : k0_pay39 (F := Ideal) a b c (k0_pay33 P) (k0_pay34 Q) (k0_pay35 R) (ix2 p q) = gap P Q R a b c p q 4 := by
  pointwise [k0_pay39, k0_pay33, k0_pay34, k0_pay35, gap, dist3, nb]
  blk_point []

theorem gap5_at : k0_pay42 (F := Ideal) a b c (k0_pay33 P) (k0_pay34 Q) (k0_pay35 R) (ix2 p q) = gap P Q R a b c p q 5 := by
  pointwise [k0_pay42, k0_pay33, k0_pay34, k0_pay35, gap, dist3, nb]
  blk_point []

theorem gap6_at : k0_pay49 (F := Ideal) P Q R a b c (ix2 p q) = gap P Q R a b c p q 6 := by
  pointwise [k0_pay49, k0_pay46, k0_pay47, k0_pay48, gap, dist3, nb]
  blk_point []

/-- After three candidates: the least distance so far and its index. `h` is the first distance, which the body builds from three pieces. -/
theorem best2_at (v115 v116 v117 : FVec Ideal S128x512 .f32) (h : k0_pay25 (F := Ideal) v115 v116 v117 (ix2 p q) = gap P Q R a b c p q 0) :
    k0_pay31 (F := Ideal) a b c (k0_pay19 P) (k0_pay20 Q) (k0_pay21 R) v115 v116 v117 (ix2 p q) = lo (gap P Q R a b c p q) 2
      ∧ k0_pay32 (F := Ideal) a b c (k0_pay19 P) (k0_pay20 Q) (k0_pay21 R) v115 v116 v117 (ix2 p q) = arg (gap P Q R a b c p q) 2 := by
  constructor
  · pointwise [k0_pay31, k0_pay30, k0_pay28, k0_pay27]
    simp only [gap1_at, gap2_at, h, show lo (gap P Q R a b c p q) 2 = _ from lo_succ _ 1, show lo (gap P Q R a b c p q) 1 = _ from lo_succ _ 0]
    rfl
  · pointwise [k0_pay32, k0_pay30, k0_pay28, k0_pay27]
    simp only [gap1_at, gap2_at, h, show arg (gap P Q R a b c p q) 2 = _ from arg_succ _ 1, show arg (gap P Q R a b c p q) 1 = _ from arg_succ _ 0,
      show lo (gap P Q R a b c p q) 1 = _ from lo_succ _ 0]
    rfl

/-- After six candidates, from what holds after three. -/
theorem best5_at (v152 : FVec Ideal S128x512 .f32) (v154 : IVec S128x512 32) (h : v152 (ix2 p q) = lo (gap P Q R a b c p q) 2)
    (h' : v154 (ix2 p q) = arg (gap P Q R a b c p q) 2) :
    k0_pay44 (F := Ideal) a b c v152 (k0_pay33 P) (k0_pay34 Q) (k0_pay35 R) (k0_pay36 P Q R a b c) (ix2 p q) = lo (gap P Q R a b c p q) 5
      ∧ k0_pay45 (F := Ideal) a b c v152 v154 (k0_pay33 P) (k0_pay34 Q) (k0_pay35 R) (k0_pay36 P Q R a b c) (ix2 p q) = arg (gap P Q R a b c p q) 5 := by
  constructor
  · pointwise [k0_pay44, k0_pay43, k0_pay41, k0_pay40, k0_pay38, k0_pay37]
    simp only [gap3_at, gap4_at, gap5_at, h, show lo (gap P Q R a b c p q) 5 = _ from lo_succ _ 4, show lo (gap P Q R a b c p q) 4 = _ from lo_succ _ 3, show lo (gap P Q R a b c p q) 3 = _ from lo_succ _ 2]
  · pointwise [k0_pay45, k0_pay43, k0_pay41, k0_pay40, k0_pay38, k0_pay37]
    simp only [gap3_at, gap4_at, gap5_at, h, h', show arg (gap P Q R a b c p q) 5 = _ from arg_succ _ 4, show arg (gap P Q R a b c p q) 4 = _ from arg_succ _ 3, show arg (gap P Q R a b c p q) 3 = _ from arg_succ _ 2,
      show lo (gap P Q R a b c p q) 4 = _ from lo_succ _ 3, show lo (gap P Q R a b c p q) 3 = _ from lo_succ _ 2]

/-- The index kept, from what holds after six candidates. -/
theorem kept_at (v209 : FVec Ideal S128x512 .f32) (v211 : IVec S128x512 32) (h : v209 (ix2 p q) = lo (gap P Q R a b c p q) 5)
    (h' : v211 (ix2 p q) = arg (gap P Q R a b c p q) 5) :
    k0_pay51 (F := Ideal) z r a b c v209 v211 (k0_pay46 P) (k0_pay47 Q) (k0_pay48 R) (k0_pay49 P Q R a b c) (ix2 p q)
      = pick (gap P Q R a b c p q) (z (ix2 p q)) (r (ix2 p q)) := by
  have g7 : gap P Q R a b c p q 7 = dist3 (P (ix2 ⟨p.val, by omega⟩ q)) (Q (ix2 ⟨p.val, by omega⟩ q)) (R (ix2 ⟨p.val, by omega⟩ q))
      (a (ix2 p q)) (b (ix2 p q)) (c (ix2 p q)) := by
    simp only [gap, nb]
    blk_point []
  have g8 : gap P Q R a b c p q 8 = dist3 (P (ix2 ⟨p.val, by omega⟩ (nb 8 q))) (Q (ix2 ⟨p.val, by omega⟩ (nb 8 q)))
      (R (ix2 ⟨p.val, by omega⟩ (nb 8 q))) (a (ix2 p q)) (b (ix2 p q)) (c (ix2 p q)) := rfl
  have e8 : ∀ X : FVec Ideal S130x512 .f32, (if h : q.val < 1 then X (ix2 ⟨p.val, by omega⟩ ⟨511 + q.val, by omega⟩)
      else X (ix2 ⟨p.val, by omega⟩ ⟨q.val - 1, by omega⟩)) = X (ix2 ⟨p.val, by omega⟩ (nb 8 q)) := by
    intro X
    simp only [nb]
    blk_point []
  pointwise [k0_pay51, k0_pay50, k0_pay46, k0_pay47, k0_pay48, pick]
  simp only [e8, gap6_at, h, h', select_and, half, show arg (gap P Q R a b c p q) 8 = _ from arg_succ _ 7, show arg (gap P Q R a b c p q) 7 = _ from arg_succ _ 6, show arg (gap P Q R a b c p q) 6 = _ from arg_succ _ 5,
    show lo (gap P Q R a b c p q) 7 = _ from lo_succ _ 6, show lo (gap P Q R a b c p q) 6 = _ from lo_succ _ 5, g7, g8, dist3]

end Cert.KernelIdeal.Block

end
-- ==== Proof.Pads.lean ====
module

public import proofs.«01_k».proof.Proof.Gen.KernelIdeal.Frame
public import proofs.«01_k».proof.Proof.Block
public import Idealize.ShloMosaic.Lib.Pipeline.ValueKit
public import Idealize.ShloMosaic.Lib.Pointwise

@[expose] public section
noncomputable section

namespace Cert.KernelIdeal.Block

open Cert.KernelIdeal Cert.KernelIdeal.Gen Idealize.ShloMosaic Idealize.ShloMosaic.TcCoe Idealize.SL.Sem Cert.Spec

/-! Where a grid point's loads begin, and the padded planes they make. -/

/-- The rows a grid point loads: the row above its band (round the edge), the band, the row below (round the edge). -/
theorem offs (t : Fin cfg0.N) : k0_off1 (grid0.coords t) = ![0, (128 * (t.val % 4) + 511) % 512, 0] ∧ k0_off2 (grid0.coords t) = ![0, 128 * (t.val % 4), 0]
    ∧ k0_off3 (grid0.coords t) = ![0, (128 * (t.val % 4) + 128) % 512, 0] ∧ k0_off4 (grid0.coords t) = ![0, 0, 128 * (t.val % 4), 0]
    ∧ k0_off5 (grid0.coords t) = ![0, 1, 128 * (t.val % 4), 0] :=
  (by decide +kernel : ∀ t : Fin grid0.N, k0_off1 (grid0.coords t) = ![0, (128 * (t.val % 4) + 511) % 512, 0] ∧ k0_off2 (grid0.coords t) = ![0, 128 * (t.val % 4), 0]
    ∧ k0_off3 (grid0.coords t) = ![0, (128 * (t.val % 4) + 128) % 512, 0] ∧ k0_off4 (grid0.coords t) = ![0, 0, 128 * (t.val % 4), 0]
    ∧ k0_off5 (grid0.coords t) = ![0, 1, 128 * (t.val % 4), 0]) t

variable (t : Fin cfg0.N) (A : Vec Ideal S1x512x512 .f32)

/-- The first padded plane at row `p`, column `q`: the plane at the row `p - 1` of the band, round the edge. -/
theorem pad_at (p : Fin 130) (q : Fin 512) :
    k0_pay7 (F := Ideal) (View.ld A (Rect.unit (s := S1x512x512) (k0_off1 (grid0.coords t)) S1x1x512.size (Gen.facts.k0_off1_inb (grid0.coords t))))
      (View.ld A (Rect.unit (s := S1x512x512) (k0_off2 (grid0.coords t)) S1x128x512.size (Gen.facts.k0_off2_inb (grid0.coords t))))
      (View.ld A (Rect.unit (s := S1x512x512) (k0_off3 (grid0.coords t)) S1x1x512.size (Gen.facts.k0_off3_inb (grid0.coords t)))) (ix2 p q)
      = A (ix3 0 ⟨(128 * (t.val % 4) + p.val + 511) % 512, Nat.mod_lt _ (by decide)⟩ q) := by
  obtain ⟨h1, h2, h3, -, -⟩ := offs t
  pointwise [k0_pay7]
  simp only [h1, h2, h3]
  blk_point []

/-- The band itself, read off the padded plane. -/
theorem mid_at (p : Fin 128) (q : Fin 512) :
    k0_pay10 (F := Ideal) (k0_pay7 (F := Ideal) (View.ld A (Rect.unit (s := S1x512x512) (k0_off1 (grid0.coords t)) S1x1x512.size (Gen.facts.k0_off1_inb (grid0.coords t))))
      (View.ld A (Rect.unit (s := S1x512x512) (k0_off2 (grid0.coords t)) S1x128x512.size (Gen.facts.k0_off2_inb (grid0.coords t))))
      (View.ld A (Rect.unit (s := S1x512x512) (k0_off3 (grid0.coords t)) S1x1x512.size (Gen.facts.k0_off3_inb (grid0.coords t))))) (ix2 p q)
      = A (ix3 0 ⟨128 * (t.val % 4) + p.val, by omega⟩ q) := by
  obtain ⟨h1, h2, h3, -, -⟩ := offs t
  pointwise [k0_pay10, k0_pay7]
  simp only [h1, h2, h3]
  blk_point []

/-- The mask's band. -/
theorem mask_at (p : Fin 128) (q : Fin 512) :
    k0_pay13 (F := Ideal) (View.ld A (Rect.unit (s := S1x512x512) (k0_off2 (grid0.coords t)) S1x128x512.size (Gen.facts.k0_off2_inb (grid0.coords t)))) (ix2 p q)
      = A (ix3 0 ⟨128 * (t.val % 4) + p.val, by omega⟩ q) := by
  obtain ⟨h1, h2, h3, -, -⟩ := offs t
  pointwise [k0_pay13]
  simp only [h2]
  blk_point []

variable (B : Vec Ideal S1x2x512x512 .bf16)

/-- The two panels' bands. -/
theorem panels_at (p : Fin 128) (q : Fin 512) :
    k0_pay14 (F := Ideal) (View.ld B (Rect.unit (s := S1x2x512x512) (k0_off4 (grid0.coords t)) S1x1x128x512.size (Gen.facts.k0_off4_inb (grid0.coords t)))) (ix2 p q)
      = B (ix4 0 0 ⟨128 * (t.val % 4) + p.val, by omega⟩ q)
    ∧ k0_pay15 (F := Ideal) (View.ld B (Rect.unit (s := S1x2x512x512) (k0_off5 (grid0.coords t)) S1x1x128x512.size (Gen.facts.k0_off5_inb (grid0.coords t)))) (ix2 p q)
      = B (ix4 0 1 ⟨128 * (t.val % 4) + p.val, by omega⟩ q) := by
  obtain ⟨-, -, -, h4, h5⟩ := offs t
  constructor
  · pointwise [k0_pay14]
    simp only [h4]
    blk_point []
  · pointwise [k0_pay15]
    simp only [h5]
    blk_point []

theorem pay8_eq : k0_pay8 (F := Ideal) = k0_pay7 := rfl

theorem pay9_eq : k0_pay9 (F := Ideal) = k0_pay7 := rfl

theorem pay11_eq (x : Vec Ideal S1x1x512 .f32) (y : Vec Ideal S1x128x512 .f32) (z : Vec Ideal S1x1x512 .f32) :
    k0_pay11 (F := Ideal) x y z = k0_pay10 (k0_pay7 x y z) := rfl

theorem pay12_eq (x : Vec Ideal S1x1x512 .f32) (y : Vec Ideal S1x128x512 .f32) (z : Vec Ideal S1x1x512 .f32) :
    k0_pay12 (F := Ideal) x y z = k0_pay10 (k0_pay7 x y z) := rfl

variable (P Q R : FVec Ideal S130x512 .f32) (z u v r : FVec Ideal S128x512 .f32) (k00 k01 k02 k10 k11 k12 k20 k21 k22 : Elt Ideal .f32)

/-- The first candidate's distance. -/
theorem gap0_at (p : Fin 128) (q : Fin 512) :
    k0_pay25 (F := Ideal) (k0_pay22 R z u v k20 k21 k22) (k0_pay23 P z u v k00 k01 k02) (k0_pay24 Q z u v k10 k11 k12) (ix2 p q)
      = gap P Q R (k0_pay16 z u v k00 k01 k02) (k0_pay17 z u v k10 k11 k12) (k0_pay18 z u v k20 k21 k22) p q 0 := by
  pointwise [k0_pay25, k0_pay22, k0_pay23, k0_pay24, k0_pay19, k0_pay20, k0_pay21, gap, dist3, nb]
  blk_point []

/-- The candidate the block keeps at a pixel: the word the whole chain of comparisons leaves there. -/
theorem choice_at (p : Fin 128) (q : Fin 512) :
    k0_pay51 (F := Ideal) z r (k0_pay16 z u v k00 k01 k02) (k0_pay17 z u v k10 k11 k12) (k0_pay18 z u v k20 k21 k22)
        (k0_pay44 (k0_pay16 z u v k00 k01 k02) (k0_pay17 z u v k10 k11 k12) (k0_pay18 z u v k20 k21 k22)
          (k0_pay31 (k0_pay16 z u v k00 k01 k02) (k0_pay17 z u v k10 k11 k12) (k0_pay18 z u v k20 k21 k22) (k0_pay19 P) (k0_pay20 Q) (k0_pay21 R)
            (k0_pay22 R z u v k20 k21 k22) (k0_pay23 P z u v k00 k01 k02) (k0_pay24 Q z u v k10 k11 k12))
          (k0_pay33 P) (k0_pay34 Q) (k0_pay35 R)
          (k0_pay36 P Q R (k0_pay16 z u v k00 k01 k02) (k0_pay17 z u v k10 k11 k12) (k0_pay18 z u v k20 k21 k22)))
        (k0_pay45 (k0_pay16 z u v k00 k01 k02) (k0_pay17 z u v k10 k11 k12) (k0_pay18 z u v k20 k21 k22)
          (k0_pay31 (k0_pay16 z u v k00 k01 k02) (k0_pay17 z u v k10 k11 k12) (k0_pay18 z u v k20 k21 k22) (k0_pay19 P) (k0_pay20 Q) (k0_pay21 R)
            (k0_pay22 R z u v k20 k21 k22) (k0_pay23 P z u v k00 k01 k02) (k0_pay24 Q z u v k10 k11 k12))
          (k0_pay32 (k0_pay16 z u v k00 k01 k02) (k0_pay17 z u v k10 k11 k12) (k0_pay18 z u v k20 k21 k22) (k0_pay19 P) (k0_pay20 Q) (k0_pay21 R)
            (k0_pay22 R z u v k20 k21 k22) (k0_pay23 P z u v k00 k01 k02) (k0_pay24 Q z u v k10 k11 k12))
          (k0_pay33 P) (k0_pay34 Q) (k0_pay35 R)
          (k0_pay36 P Q R (k0_pay16 z u v k00 k01 k02) (k0_pay17 z u v k10 k11 k12) (k0_pay18 z u v k20 k21 k22)))
        (k0_pay46 P) (k0_pay47 Q) (k0_pay48 R)
        (k0_pay49 P Q R (k0_pay16 z u v k00 k01 k02) (k0_pay17 z u v k10 k11 k12) (k0_pay18 z u v k20 k21 k22)) (ix2 p q)
      = pick (gap P Q R (k0_pay16 z u v k00 k01 k02) (k0_pay17 z u v k10 k11 k12) (k0_pay18 z u v k20 k21 k22) p q) (z (ix2 p q)) (r (ix2 p q)) := by
  have h0 := gap0_at P Q R z u v k00 k01 k02 k10 k11 k12 k20 k21 k22 p q
  have h2 := best2_at P Q R _ _ _ p q _ _ _ h0
  have h5 := best5_at P Q R _ _ _ p q _ _ h2.1 h2.2
  exact kept_at P Q R _ _ _ z r p q _ _ h5.1 h5.2

/-- The pixel's ray point on the block, coordinate by coordinate. -/
theorem ray_at (p : Fin 128) (q : Fin 512) :
    k0_pay16 (F := Ideal) z u v k00 k01 k02 (ix2 p q) = ((k00 * u (ix2 p q) + k01 * v (ix2 p q)) + k02) * z (ix2 p q)
    ∧ k0_pay17 (F := Ideal) z u v k00 k01 k02 (ix2 p q) = ((k00 * u (ix2 p q) + k01 * v (ix2 p q)) + k02) * z (ix2 p q)
    ∧ k0_pay18 (F := Ideal) z u v k00 k01 k02 (ix2 p q) = ((k00 * u (ix2 p q) + k01 * v (ix2 p q)) + k02) * z (ix2 p q) := by
  refine ⟨?_, ?_, ?_⟩
  · pointwise [k0_pay16]
  · pointwise [k0_pay17]
  · pointwise [k0_pay18]

/-- A choice by the equality of two words. -/
theorem select_eq {α : Type} (x y : BitVec 32) (a b : α) : Scalar.select (IntOp.cmpi .eq x y) a b = if x = y then a else b := by
  by_cases h : x = y
  · simp [h, Scalar.select, IntOp.cmpi]
  · have e : (x == y) = false := by simpa using h
    simp [h, e, Scalar.select, IntOp.cmpi]

variable (A1 A2 A3 : Vec Ideal S1x512x512 .f32) (K : Vec Ideal S3x3 .f32)

/-- The block's distances are the specification's, at the block's rows of the image. -/
theorem gap_eq (p : Fin 128) (q : Fin 512) :
    gap (k0_pay7 (F := Ideal) (View.ld A1 (Rect.unit (s := S1x512x512) (k0_off1 (grid0.coords t)) S1x1x512.size (Gen.facts.k0_off1_inb (grid0.coords t))))
      (View.ld A1 (Rect.unit (s := S1x512x512) (k0_off2 (grid0.coords t)) S1x128x512.size (Gen.facts.k0_off2_inb (grid0.coords t))))
      (View.ld A1 (Rect.unit (s := S1x512x512) (k0_off3 (grid0.coords t)) S1x1x512.size (Gen.facts.k0_off3_inb (grid0.coords t)))))
      (k0_pay7 (F := Ideal) (View.ld A2 (Rect.unit (s := S1x512x512) (k0_off1 (grid0.coords t)) S1x1x512.size (Gen.facts.k0_off1_inb (grid0.coords t))))
      (View.ld A2 (Rect.unit (s := S1x512x512) (k0_off2 (grid0.coords t)) S1x128x512.size (Gen.facts.k0_off2_inb (grid0.coords t))))
      (View.ld A2 (Rect.unit (s := S1x512x512) (k0_off3 (grid0.coords t)) S1x1x512.size (Gen.facts.k0_off3_inb (grid0.coords t)))))
      (k0_pay7 (F := Ideal) (View.ld A3 (Rect.unit (s := S1x512x512) (k0_off1 (grid0.coords t)) S1x1x512.size (Gen.facts.k0_off1_inb (grid0.coords t))))
      (View.ld A3 (Rect.unit (s := S1x512x512) (k0_off2 (grid0.coords t)) S1x128x512.size (Gen.facts.k0_off2_inb (grid0.coords t))))
      (View.ld A3 (Rect.unit (s := S1x512x512) (k0_off3 (grid0.coords t)) S1x1x512.size (Gen.facts.k0_off3_inb (grid0.coords t)))))
      (k0_pay16 (F := Ideal) (k0_pay10 (k0_pay7 (F := Ideal) (View.ld A3 (Rect.unit (s := S1x512x512) (k0_off1 (grid0.coords t)) S1x1x512.size (Gen.facts.k0_off1_inb (grid0.coords t))))
      (View.ld A3 (Rect.unit (s := S1x512x512) (k0_off2 (grid0.coords t)) S1x128x512.size (Gen.facts.k0_off2_inb (grid0.coords t))))
      (View.ld A3 (Rect.unit (s := S1x512x512) (k0_off3 (grid0.coords t)) S1x1x512.size (Gen.facts.k0_off3_inb (grid0.coords t))))))
      (k0_pay14 (F := Ideal) (View.ld B (Rect.unit (s := S1x2x512x512) (k0_off4 (grid0.coords t)) S1x1x128x512.size (Gen.facts.k0_off4_inb (grid0.coords t)))))
      (k0_pay15 (F := Ideal) (View.ld B (Rect.unit (s := S1x2x512x512) (k0_off5 (grid0.coords t)) S1x1x128x512.size (Gen.facts.k0_off5_inb (grid0.coords t)))))
      (K (ix2 0 0)) (K (ix2 0 1)) (K (ix2 0 2)))
      (k0_pay17 (F := Ideal) (k0_pay10 (k0_pay7 (F := Ideal) (View.ld A3 (Rect.unit (s := S1x512x512) (k0_off1 (grid0.coords t)) S1x1x512.size (Gen.facts.k0_off1_inb (grid0.coords t))))
      (View.ld A3 (Rect.unit (s := S1x512x512) (k0_off2 (grid0.coords t)) S1x128x512.size (Gen.facts.k0_off2_inb (grid0.coords t))))
      (View.ld A3 (Rect.unit (s := S1x512x512) (k0_off3 (grid0.coords t)) S1x1x512.size (Gen.facts.k0_off3_inb (grid0.coords t))))))
      (k0_pay14 (F := Ideal) (View.ld B (Rect.unit (s := S1x2x512x512) (k0_off4 (grid0.coords t)) S1x1x128x512.size (Gen.facts.k0_off4_inb (grid0.coords t)))))
      (k0_pay15 (F := Ideal) (View.ld B (Rect.unit (s := S1x2x512x512) (k0_off5 (grid0.coords t)) S1x1x128x512.size (Gen.facts.k0_off5_inb (grid0.coords t)))))
      (K (ix2 1 0)) (K (ix2 1 1)) (K (ix2 1 2)))
      (k0_pay18 (F := Ideal) (k0_pay10 (k0_pay7 (F := Ideal) (View.ld A3 (Rect.unit (s := S1x512x512) (k0_off1 (grid0.coords t)) S1x1x512.size (Gen.facts.k0_off1_inb (grid0.coords t))))
      (View.ld A3 (Rect.unit (s := S1x512x512) (k0_off2 (grid0.coords t)) S1x128x512.size (Gen.facts.k0_off2_inb (grid0.coords t))))
      (View.ld A3 (Rect.unit (s := S1x512x512) (k0_off3 (grid0.coords t)) S1x1x512.size (Gen.facts.k0_off3_inb (grid0.coords t))))))
      (k0_pay14 (F := Ideal) (View.ld B (Rect.unit (s := S1x2x512x512) (k0_off4 (grid0.coords t)) S1x1x128x512.size (Gen.facts.k0_off4_inb (grid0.coords t)))))
      (k0_pay15 (F := Ideal) (View.ld B (Rect.unit (s := S1x2x512x512) (k0_off5 (grid0.coords t)) S1x1x128x512.size (Gen.facts.k0_off5_inb (grid0.coords t)))))
      (K (ix2 2 0)) (K (ix2 2 1)) (K (ix2 2 2))) p q
    = Spec.dist (fun i j => K (ix2 i j)) (fun i j => B (ix4 0 0 i j)) (fun i j => B (ix4 0 1 i j)) (fun i j => A1 (ix3 0 i j))
        (fun i j => A2 (ix3 0 i j)) (fun i j => A3 (ix3 0 i j)) ⟨128 * (t.val % 4) + p.val, by omega⟩ q := by
  funext k
  have e : ∀ A : Vec Ideal S1x512x512 .f32, A (ix3 0 ⟨(128 * (t.val % 4) + (p.val + (2 - k / 3)) + 511) % 512, Nat.mod_lt _ (by decide)⟩ (nb k q))
      = A (ix3 0 (near k ⟨128 * (t.val % 4) + p.val, by omega⟩) (nb k q)) := by
    intro A
    simp only [near]
    congr 4
    omega
  simp only [gap, pad_at, (ray_at _ _ _ _ _ _ _ _).1, (ray_at _ _ _ _ _ _ _ _).2.1, (ray_at _ _ _ _ _ _ _ _).2.2, (panels_at _ _ _ _).1,
    (panels_at _ _ _ _).2, mid_at, Spec.dist, far, e]

end Cert.KernelIdeal.Block

end
-- ==== Proof.Outs.lean ====
module

public import proofs.«01_k».proof.Proof.Pads

@[expose] public section
noncomputable section

namespace Cert.KernelIdeal.Block

open Cert.KernelIdeal Cert.KernelIdeal.Gen Idealize.ShloMosaic Idealize.ShloMosaic.TcCoe Idealize.SL.Sem Cert.Spec

/-! What a grid point writes: channel by channel, the cell of the specification. -/

variable (m : (ℓ : Loc nD τ sig) → Buf (Elt Ideal) ℓ) (c : Dev nD) (t : Fin cfg0.N)

/-- The camera's entries as a grid point finds them. -/
def cam (i j : Fin 3) : EReal := (show Vec Ideal S3x3 .f32 from iblk m c 0 t) (ix2 i j)

/-- The three coordinate planes and the mask of a grid point's image. -/
def planeX (i j : Fin 512) : EReal := (show Vec Ideal S1x512x512 .f32 from iblk m c 1 t) (ix3 0 i j)
def planeY (i j : Fin 512) : EReal := (show Vec Ideal S1x512x512 .f32 from iblk m c 2 t) (ix3 0 i j)
def planeZ (i j : Fin 512) : EReal := (show Vec Ideal S1x512x512 .f32 from iblk m c 3 t) (ix3 0 i j)
def planeR (i j : Fin 512) : EReal := (show Vec Ideal S1x512x512 .f32 from iblk m c 4 t) (ix3 0 i j)

/-- The two panels. -/
def panU (i j : Fin 512) : EReal := (show Vec Ideal S1x2x512x512 .bf16 from iblk m c 5 t) (ix4 0 0 i j)
def panV (i j : Fin 512) : EReal := (show Vec Ideal S1x2x512x512 .bf16 from iblk m c 5 t) (ix4 0 1 i j)

/-- What a grid point writes at channel `ch`, row `p` of its band, column `q`. -/
theorem outs_at (ch : Fin 36) (p : Fin 128) (q : Fin 512) : outsAt0 m c t (ix4 0 ch p q)
    = cell (cam m c t) (panU m c t) (panV m c t) (planeX m c t) (planeY m c t) (planeZ m c t) (planeR m c t) ch.val
        ⟨128 * (t.val % 4) + p.val, by omega⟩ q := by
  unfold outsAt0
  frame_out
  canon_tiles x h
  all_goals
    obtain rfl : x = ix4 0 0 p q := by
      funext a
      apply Fin.ext
      fin_cases a
      · exact Nat.lt_one_iff.mp x0_lt
      · exact Nat.lt_one_iff.mp x1_lt
      · exact h2.symm
      · exact h3.symm
    rw [show ch.val = _ + 0 from h1]
    clear h0 h1 h2 h3 x0_lt x1_lt x2_lt x3_lt
    pointwise [k0_pay1, k0_pay2, k0_pay3, k0_pay4, k0_pay5, k0_pay6, k0_pay50, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98]
    simp only [pay8_eq, pay9_eq, pay11_eq, pay12_eq, choice_at, gap_eq]
    simp only [select_eq, mid_at, mask_at, cell, chan, mask, half, Nat.reduceAdd, Nat.reduceMod, Nat.reduceDiv]
    simp only [reduceCtorEq, OfNat.ofNat_ne_zero, reduceIte, Nat.reduceEqDiff]
    rfl

end Cert.KernelIdeal.Block

end
-- ==== Proof.Move.lean ====
/-
  Reshapes read at an index: the two leading axes of the arguments as one image number, and the channels of the result as three axes.
-/
module

public import Idealize.ShloMosaic.Lib.Pointwise
public import Idealize.ShloMosaic.Lib.Pipeline.Value

@[expose] public section

noncomputable section

namespace Cert.Move

open Idealize.ShloMosaic

variable {α : Type}

/-- Images `(b, c)` numbered `2 b + c`: a `(2, 2, 1, 512, 512)` array as `(4, 512, 512)`. -/
theorem image_at (X : (⟨5, ![2, 2, 1, 512, 512]⟩ : Shape).Idx → α) (h : (⟨5, ![2, 2, 1, 512, 512]⟩ : Shape).ShapeCasts ⟨3, ![4, 512, 512]⟩)
    (n : Fin 4) (i j : Fin 512) :
    shapeCast ⟨3, ![4, 512, 512]⟩ X h (ix3 n i j) = X (ix5 ⟨n.val / 2, by omega⟩ ⟨n.val % 2, by omega⟩ 0 i j) := by
  refine shapeCast_apply X h _ _ ?_
  rw [rowMajor_val5 _ 524288 262144 262144 512 rfl rfl rfl rfl, rowMajor_val3 _ 262144 512 rfl rfl]
  show n.val / 2 * 524288 + n.val % 2 * 262144 + 0 * 262144 + i.val * 512 + j.val = n.val * 262144 + i.val * 512 + j.val
  omega

/-- The panels likewise: a `(2, 2, 2, 512, 512)` array as `(4, 2, 512, 512)`. -/
theorem panel_at (X : (⟨5, ![2, 2, 2, 512, 512]⟩ : Shape).Idx → α) (h : (⟨5, ![2, 2, 2, 512, 512]⟩ : Shape).ShapeCasts ⟨4, ![4, 2, 512, 512]⟩)
    (n : Fin 4) (e : Fin 2) (i j : Fin 512) :
    shapeCast ⟨4, ![4, 2, 512, 512]⟩ X h (ix4 n e i j) = X (ix5 ⟨n.val / 2, by omega⟩ ⟨n.val % 2, by omega⟩ e i j) := by
  refine shapeCast_apply X h _ _ ?_
  rw [rowMajor_val5 _ 1048576 524288 262144 512 rfl rfl rfl rfl, rowMajor_val4 _ 524288 262144 512 rfl rfl rfl]
  show n.val / 2 * 1048576 + n.val % 2 * 524288 + e.val * 262144 + i.val * 512 + j.val = n.val * 524288 + e.val * 262144 + i.val * 512 + j.val
  omega

/-- The result: image and channel of a `(4, 36, 512, 512)` array as `(2, 2)` and `(3, 3, 4)`. -/
theorem result_at (X : (⟨4, ![4, 36, 512, 512]⟩ : Shape).Idx → α)
    (h : (⟨4, ![4, 36, 512, 512]⟩ : Shape).ShapeCasts ⟨7, ![2, 2, 3, 3, 4, 512, 512]⟩) (b c : Fin 2) (d e : Fin 3) (f : Fin 4) (i j : Fin 512) :
    shapeCast ⟨7, ![2, 2, 3, 3, 4, 512, 512]⟩ X h (ix7 b c d e f i j)
      = X (ix4 ⟨2 * b.val + c.val, by omega⟩ ⟨12 * d.val + 4 * e.val + f.val, by omega⟩ i j) := by
  refine shapeCast_apply X h _ _ ?_
  rw [rowMajor_val4 _ 9437184 262144 512 rfl rfl rfl, rowMajor_val7 _ 18874368 9437184 3145728 1048576 262144 512 rfl rfl rfl rfl rfl rfl]
  show (2 * b.val + c.val) * 9437184 + (12 * d.val + 4 * e.val + f.val) * 262144 + i.val * 512 + j.val
    = b.val * 18874368 + c.val * 9437184 + d.val * 3145728 + e.val * 1048576 + f.val * 262144 + i.val * 512 + j.val
  omega

end Cert.Move

end
-- ==== Proof.Array.lean ====
module

public import proofs.«01_k».proof.Proof.Outs
public import proofs.«01_k».proof.Proof.Move
public import Idealize.ShloMosaic.Lib.Claim

@[expose] public section
noncomputable section

namespace Cert.KernelIdeal.Block

open Cert.KernelIdeal Cert.KernelIdeal.Gen Idealize.ShloMosaic Idealize.ShloMosaic.TcCoe Idealize.SL.Sem Cert.Spec

/-! What the kernel's array holds after the run. -/

variable (m : (ℓ : Loc nD τ sig) → Buf (Elt Ideal) ℓ) (c : Dev nD)

/-- The windows' block indices at a grid point. -/
theorem idx (t : Fin cfg0.N) : win0_0.index t = ![0, 0] ∧ win0_1.index t = ![t.val / 4, 0, 0] ∧ win0_2.index t = ![t.val / 4, 0, 0]
    ∧ win0_3.index t = ![t.val / 4, 0, 0] ∧ win0_4.index t = ![t.val / 4, 0, 0] ∧ win0_5.index t = ![t.val / 4, 0, 0, 0]
    ∧ win0_6.index t = ![t.val / 4, 0, t.val % 4, 0] :=
  (by decide +kernel : ∀ t : Fin grid0.N, win0_0.index t = ![0, 0] ∧ win0_1.index t = ![t.val / 4, 0, 0] ∧ win0_2.index t = ![t.val / 4, 0, 0]
    ∧ win0_3.index t = ![t.val / 4, 0, 0] ∧ win0_4.index t = ![t.val / 4, 0, 0] ∧ win0_5.index t = ![t.val / 4, 0, 0, 0]
    ∧ win0_6.index t = ![t.val / 4, 0, t.val % 4, 0]) t

theorem point_div (t : Fin cfg0.N) : t.val / 4 < 4 := (by decide +kernel : ∀ t : Fin grid0.N, t.val / 4 < 4) t

/-- What the region finds in the operands it is given: the arguments with their leading axes merged, the panels and the camera through formats that
    lose nothing here. -/
theorem entries : V m c main_v0 = shapeCast S4x512x512 (m ((c : Thread nD τ).loc main_arg0)) shapeCasts_S2x2x1x512x512_S4x512x512
    ∧ V m c main_v1 = shapeCast S4x512x512 (m ((c : Thread nD τ).loc main_arg1)) shapeCasts_S2x2x1x512x512_S4x512x512
    ∧ V m c main_v2 = shapeCast S4x512x512 (m ((c : Thread nD τ).loc main_arg2)) shapeCasts_S2x2x1x512x512_S4x512x512
    ∧ V m c main_v3 = shapeCast S4x512x512 (m ((c : Thread nD τ).loc main_arg3)) shapeCasts_S2x2x1x512x512_S4x512x512
    ∧ V m c main_v5 = (truncf (F := Ideal) (φ := .f32) .bf16 (shapeCast S4x2x512x512 (m ((c : Thread nD τ).loc main_arg4)) shapeCasts_S2x2x2x512x512_S4x2x512x512) bitsLt_bf16_f32)
    ∧ V m c main_v7 = m ((c : Thread nD τ).loc main_arg6) := by
  refine ⟨?_, ?_, ?_, ?_, ?_, ?_⟩
  all_goals
    show StableHlo.after hostOps0 _ _ = _
    unfold hostOps0
    after_results_simp
    rfl

/-- Where the input blocks of a grid point lie in their arrays. -/
theorem places (t : Fin cfg0.N) : (∀ i j, (win0_0.blk t).view.emb (ix2 i j) = ix2 i j)
    ∧ (∀ i j, (win0_1.blk t).view.emb (ix3 0 i j) = ix3 ⟨t.val / 4, point_div t⟩ i j)
    ∧ (∀ i j, (win0_2.blk t).view.emb (ix3 0 i j) = ix3 ⟨t.val / 4, point_div t⟩ i j)
    ∧ (∀ i j, (win0_3.blk t).view.emb (ix3 0 i j) = ix3 ⟨t.val / 4, point_div t⟩ i j)
    ∧ (∀ i j, (win0_4.blk t).view.emb (ix3 0 i j) = ix3 ⟨t.val / 4, point_div t⟩ i j)
    ∧ ∀ e i j, (win0_5.blk t).view.emb (ix4 0 e i j) = ix4 ⟨t.val / 4, point_div t⟩ e i j := by
  refine ⟨fun i j => ?_, fun i j => ?_, fun i j => ?_, fun i j => ?_, fun i j => ?_, fun e i j => ?_⟩
  all_goals blk_ext [idx t]

/-- So a grid point's blocks are the image of the arguments it is at. -/
theorem blocks (t : Fin cfg0.N) : cam m c t = (fun i j => m ((c : Thread nD τ).loc main_arg6) (ix2 i j))
    ∧ planeX m c t = image (m ((c : Thread nD τ).loc main_arg0)) ⟨t.val / 4, point_div t⟩ ∧ planeY m c t = image (m ((c : Thread nD τ).loc main_arg1)) ⟨t.val / 4, point_div t⟩
    ∧ planeZ m c t = image (m ((c : Thread nD τ).loc main_arg2)) ⟨t.val / 4, point_div t⟩ ∧ planeR m c t = image (m ((c : Thread nD τ).loc main_arg3)) ⟨t.val / 4, point_div t⟩
    ∧ panU m c t = panel (m ((c : Thread nD τ).loc main_arg4)) 0 ⟨t.val / 4, point_div t⟩ ∧ panV m c t = panel (m ((c : Thread nD τ).loc main_arg4)) 1 ⟨t.val / 4, point_div t⟩ := by
  obtain ⟨v0, v1, v2, v3, v5, v7⟩ := entries m c
  obtain ⟨p0, p1, p2, p3, p4, p5⟩ := places t
  refine ⟨?_, ?_, ?_, ?_, ?_, ?_, ?_⟩ <;> funext i j
  · exact (congrArg (V m c main_v7) (p0 i j)).trans (congrFun v7 _)
  · exact (congrArg (V m c main_v0) (p1 i j)).trans ((congrFun v0 _).trans (Move.image_at _ _ _ _ _))
  · exact (congrArg (V m c main_v1) (p2 i j)).trans ((congrFun v1 _).trans (Move.image_at _ _ _ _ _))
  · exact (congrArg (V m c main_v2) (p3 i j)).trans ((congrFun v2 _).trans (Move.image_at _ _ _ _ _))
  · exact (congrArg (V m c main_v3) (p4 i j)).trans ((congrFun v3 _).trans (Move.image_at _ _ _ _ _))
  · exact (congrArg (V m c main_v5) (p5 0 i j)).trans ((congrFun v5 _).trans (Move.panel_at _ _ _ _ _ _))
  · exact (congrArg (V m c main_v5) (p5 1 i j)).trans ((congrFun v5 _).trans (Move.panel_at _ _ _ _ _ _))

/-- The result's array, as the specification has it. -/
def G (i : S4x36x512x512.Idx) : EReal :=
  value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (i 0) (i 1).val (i 2) (i 3)

/-- The kernel's array after the run is the specification's. -/
theorem arr : (dats m 0 c).arrAt 6 cfg0.N = G m c := by
  refine (dats m 0 c).arrAt_eq_of_covers 6 (G m c) (by decide +kernel) fun t _ y => ?_
  blk_simp
  rw [after0_6]
  have hy : (y : S1x36x128x512.Idx) = ix4 0 (y 1) (y 2) (y 3) := by
    funext a
    fin_cases a
    · exact Fin.ext (Nat.lt_one_iff.mp (y 0).isLt)
    all_goals rfl
  have hb : (y 2).val < 128 := (y 2).isLt
  have hp : (win0_6.blk t).view.emb (ix4 0 (y 1) (y 2) (y 3))
      = ix4 ⟨t.val / 4, point_div t⟩ (y 1) ⟨128 * (t.val % 4) + (y 2).val, by omega⟩ (y 3) := by
    blk_ext [idx t]
  rw [hy]
  refine (outs_at m c t (y 1) (y 2) (y 3)).trans ?_
  refine Eq.trans ?_ (congrArg (G m c) hp).symm
  obtain ⟨h1, h2, h3, h4, h5, h6, h7⟩ := blocks m c t
  rw [h1, h2, h3, h4, h5, h6, h7]
  rfl

end Cert.KernelIdeal.Block

end
-- ==== Proof.KernelRun.lean ====
module

public import proofs.«01_k».proof.Proof.Array
public import Idealize.ShloMosaic.Lib.Pipeline.FrameTail

@[expose] public section
noncomputable section

namespace Cert.KernelIdeal.Block

open Cert.KernelIdeal Cert.KernelIdeal.Gen Idealize.ShloMosaic Idealize.ShloMosaic.TcCoe Idealize.SL.Sem Cert.Spec

variable (m : (ℓ : Loc nD τ sig) → Buf (Elt Ideal) ℓ) (ρ : Dev nD → PrngReg)

/-- What the kernel program leaves: its result is the specification's array with the channel axis split in three, its arguments are untouched. -/
theorem run : θ_run defs (onTc (τ := τ) (main (F := Ideal))) ⟨m, fun _ => 0, ρ⟩ fun r => ∀ c : Dev nD,
    r.2.mem ((c : Thread nD τ).loc main_v9) = shapeCast S2x2x3x3x4x512x512 (G m c) shapeCasts_S4x36x512x512_S2x2x3x3x4x512x512
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  run_from Cert.KernelIdeal.Gen.run_main m ρ
  · rw [← arr]
    show StableHlo.after hostOps1 _ _ = _
    unfold hostOps1
    after_results_simp
    exact congrArg (shapeCast S2x2x3x3x4x512x512 · shapeCasts_S4x36x512x512_S2x2x3x3x4x512x512)
      (Pipeline.withArrays_arr spec0 launch0.win.arr_inj c (V0 m c) _ 6)
  · exact W_main_arg0 m (dats m) c
  · exact W_main_arg1 m (dats m) c
  · exact W_main_arg2 m (dats m) c
  · exact W_main_arg3 m (dats m) c
  · exact W_main_arg4 m (dats m) c
  · exact W_main_arg5 m (dats m) c
  · exact W_main_arg6 m (dats m) c

end Cert.KernelIdeal.Block

end
-- ==== Proof.RefOps.lean ====
/-
  The reference's `main` as a list of its host operations, cut into stretches that mean something: the points, nine squared distances, the
  stack of them, the pick, the masks, the results. Here: the lists, that `main` runs them in order, and which buffers each stretch writes.
-/
module

public import proofs.«01_k».proof.Proof.Gen.ReferenceIdeal
public import Idealize.ShloMosaic.Lib.StableHlo.Run
public import Idealize.ShloMosaic.Lib.Claim

@[expose] public section

set_option Elab.async false

noncomputable section

namespace Cert.ReferenceIdeal.Steps

open Cert.ReferenceIdeal Cert.ReferenceIdeal.Gen Idealize.ShloMosaic Idealize.ShloMosaic.TcCoe Idealize.SL.Sem Idealize.ShloMosaic.StableHlo

variable {F : FTy → Type} [FloatOps F]

/-- The three planes stacked (twice) and the point each pixel of the panel stands for. -/
abbrev points : List (HloOp τ sig (Elt F)) :=
  [ nary ![main_arg0, main_arg1, main_arg2] main_v0 (fun u => (concatenate S2x2x3x512x512 2 [⟨S2x2x1x512x512, (u 0 : (⟨S2x2x1x512x512, .f32⟩ : BufTy).Contents (Elt F))⟩, ⟨S2x2x1x512x512, (u 1 : (⟨S2x2x1x512x512, .f32⟩ : BufTy).Contents (Elt F))⟩, ⟨S2x2x1x512x512, (u 2 : (⟨S2x2x1x512x512, .f32⟩ : BufTy).Contents (Elt F))⟩] concatenates_S2x2x1x512x512_S2x2x1x512x512_S2x2x1x512x512_S2x2x3x512x512_d2 : (⟨S2x2x3x512x512, .f32⟩ : BufTy).Contents (Elt F))),
    nary ![main_arg0, main_arg1, main_arg2] main_v1 (fun u => (concatenate S2x2x3x512x512 2 [⟨S2x2x1x512x512, (u 0 : (⟨S2x2x1x512x512, .f32⟩ : BufTy).Contents (Elt F))⟩, ⟨S2x2x1x512x512, (u 1 : (⟨S2x2x1x512x512, .f32⟩ : BufTy).Contents (Elt F))⟩, ⟨S2x2x1x512x512, (u 2 : (⟨S2x2x1x512x512, .f32⟩ : BufTy).Contents (Elt F))⟩] concatenates_S2x2x1x512x512_S2x2x1x512x512_S2x2x1x512x512_S2x2x3x512x512_d2 : (⟨S2x2x3x512x512, .f32⟩ : BufTy).Contents (Elt F))),
    unary main_arg4 main_v2 ((extractStridedSlice S2x2x1x512x512 ![0, 0, 0, 0, 0] · slices_S2x2x2x512x512_S2x2x1x512x512_0_0_0_0_0) : (⟨S2x2x2x512x512, .f32⟩ : BufTy).Contents (Elt F) → (⟨S2x2x1x512x512, .f32⟩ : BufTy).Contents (Elt F)),
    unary main_arg4 main_v3 ((extractStridedSlice S2x2x1x512x512 ![0, 0, 1, 0, 0] · slices_S2x2x2x512x512_S2x2x1x512x512_0_0_1_0_0) : (⟨S2x2x2x512x512, .f32⟩ : BufTy).Contents (Elt F) → (⟨S2x2x1x512x512, .f32⟩ : BufTy).Contents (Elt F)),
    nullary main_cst (constant S_ .f32 0x3F800000#32),
    unary main_cst main_v4 (broadcastInDim S2x2x1x512x512 ![] bcast_S_S2x2x1x512x512 : (⟨S_, .f32⟩ : BufTy).Contents (Elt F) → (⟨S2x2x1x512x512, .f32⟩ : BufTy).Contents (Elt F)),
    nary ![main_v2, main_v3, main_v4] main_v5 (fun u => (concatenate S2x2x3x512x512 2 [⟨S2x2x1x512x512, (u 0 : (⟨S2x2x1x512x512, .f32⟩ : BufTy).Contents (Elt F))⟩, ⟨S2x2x1x512x512, (u 1 : (⟨S2x2x1x512x512, .f32⟩ : BufTy).Contents (Elt F))⟩, ⟨S2x2x1x512x512, (u 2 : (⟨S2x2x1x512x512, .f32⟩ : BufTy).Contents (Elt F))⟩] concatenates_S2x2x1x512x512_S2x2x1x512x512_S2x2x1x512x512_S2x2x3x512x512_d2 : (⟨S2x2x3x512x512, .f32⟩ : BufTy).Contents (Elt F))),
    binary main_v5 main_arg6 main_v6 ((fun l r => Host.dotGeneral dot_S2x2x3x512x512_S3x3_S2x2x512x512x3_2_1_0134_0_n_n none l r) : (⟨S2x2x3x512x512, .f32⟩ : BufTy).Contents (Elt F) → (⟨S3x3, .f32⟩ : BufTy).Contents (Elt F) → (⟨S2x2x512x512x3, .f32⟩ : BufTy).Contents (Elt F)),
    unary main_v6 main_v7 ((transpose S2x2x3x512x512 [0, 1, 4, 2, 3] · transposes_S2x2x512x512x3_S2x2x3x512x512_0_1_4_2_3) : (⟨S2x2x512x512x3, .f32⟩ : BufTy).Contents (Elt F) → (⟨S2x2x3x512x512, .f32⟩ : BufTy).Contents (Elt F)),
    unary main_arg2 main_v8 (broadcastInDim S2x2x3x512x512 ![0, 1, 2, 3, 4] bcast_S2x2x1x512x512_S2x2x3x512x512_0_1_2_3_4 : (⟨S2x2x1x512x512, .f32⟩ : BufTy).Contents (Elt F) → (⟨S2x2x3x512x512, .f32⟩ : BufTy).Contents (Elt F)),
    binary main_v7 main_v8 main_v9 (mulf : (⟨S2x2x3x512x512, .f32⟩ : BufTy).Contents (Elt F) → (⟨S2x2x3x512x512, .f32⟩ : BufTy).Contents (Elt F) → (⟨S2x2x3x512x512, .f32⟩ : BufTy).Contents (Elt F)) ]

/-- The squared distance to the neighbour of candidate 0. -/
abbrev dist0 : List (HloOp τ sig (Elt F)) :=
  [ TRef.unary (TRef.of (T := ⟨S2x2x3x512x512, .f32⟩) main_v1) (TRef.of (T := ⟨S2x2x3x511x512, .f32⟩) main_call0_v0) (extractStridedSlice S2x2x3x511x512 ![0, 0, 0, 1, 0] · slices_S2x2x3x512x512_S2x2x3x511x512_0_0_0_1_0),
    TRef.unary (TRef.of (T := ⟨S2x2x3x512x512, .f32⟩) main_v1) (TRef.of (T := ⟨S2x2x3x1x512, .f32⟩) main_call0_v1) (extractStridedSlice S2x2x3x1x512 ![0, 0, 0, 0, 0] · slices_S2x2x3x512x512_S2x2x3x1x512_0_0_0_0_0),
    TRef.binary (TRef.of (T := ⟨S2x2x3x511x512, .f32⟩) main_call0_v0) (TRef.of (T := ⟨S2x2x3x1x512, .f32⟩) main_call0_v1) (TRef.of (T := ⟨S2x2x3x512x512, .f32⟩) main_call0_v2) (fun a b => concatenate S2x2x3x512x512 3 [⟨S2x2x3x511x512, a⟩, ⟨S2x2x3x1x512, b⟩] concatenates_S2x2x3x511x512_S2x2x3x1x512_S2x2x3x512x512_d3),
    TRef.unary (TRef.of (T := ⟨S2x2x3x512x512, .f32⟩) main_call0_v2) (TRef.of (T := ⟨S2x2x3x512x511, .f32⟩) main_call0_v3) (extractStridedSlice S2x2x3x512x511 ![0, 0, 0, 0, 1] · slices_S2x2x3x512x512_S2x2x3x512x511_0_0_0_0_1),
    TRef.unary (TRef.of (T := ⟨S2x2x3x512x512, .f32⟩) main_call0_v2) (TRef.of (T := ⟨S2x2x3x512x1, .f32⟩) main_call0_v4) (extractStridedSlice S2x2x3x512x1 ![0, 0, 0, 0, 0] · slices_S2x2x3x512x512_S2x2x3x512x1_0_0_0_0_0),
    TRef.binary (TRef.of (T := ⟨S2x2x3x512x511, .f32⟩) main_call0_v3) (TRef.of (T := ⟨S2x2x3x512x1, .f32⟩) main_call0_v4) (TRef.of (T := ⟨S2x2x3x512x512, .f32⟩) main_v10) (fun a b => concatenate S2x2x3x512x512 4 [⟨S2x2x3x512x511, a⟩, ⟨S2x2x3x512x1, b⟩] concatenates_S2x2x3x512x511_S2x2x3x512x1_S2x2x3x512x512_d4),
    binary main_v10 main_v9 main_v11 (subf : (⟨S2x2x3x512x512, .f32⟩ : BufTy).Contents (Elt F) → (⟨S2x2x3x512x512, .f32⟩ : BufTy).Contents (Elt F) → (⟨S2x2x3x512x512, .f32⟩ : BufTy).Contents (Elt F)),
    binary main_v11 main_v11 main_v12 (mulf : (⟨S2x2x3x512x512, .f32⟩ : BufTy).Contents (Elt F) → (⟨S2x2x3x512x512, .f32⟩ : BufTy).Contents (Elt F) → (⟨S2x2x3x512x512, .f32⟩ : BufTy).Contents (Elt F)),
    nullary main_cst_0 (constant S_ .f32 0x00000000#32),
    binary main_v12 main_cst_0 main_v13 ((fun x v => Host.reduceAdd x v reducesTo_S2x2x3x512x512_S2x2x512x512_d2 h_S_) : (⟨S2x2x3x512x512, .f32⟩ : BufTy).Contents (Elt F) → (⟨S_, .f32⟩ : BufTy).Contents (Elt F) → (⟨S2x2x512x512, .f32⟩ : BufTy).Contents (Elt F)) ]

/-- The squared distance to the neighbour of candidate 1. -/
abbrev dist1 : List (HloOp τ sig (Elt F)) :=
  [ TRef.unary (TRef.of (T := ⟨S2x2x3x512x512, .f32⟩) main_v1) (TRef.of (T := ⟨S2x2x3x511x512, .f32⟩) main_call1_v0) (extractStridedSlice S2x2x3x511x512 ![0, 0, 0, 1, 0] · slices_S2x2x3x512x512_S2x2x3x511x512_0_0_0_1_0),
    TRef.unary (TRef.of (T := ⟨S2x2x3x512x512, .f32⟩) main_v1) (TRef.of (T := ⟨S2x2x3x1x512, .f32⟩) main_call1_v1) (extractStridedSlice S2x2x3x1x512 ![0, 0, 0, 0, 0] · slices_S2x2x3x512x512_S2x2x3x1x512_0_0_0_0_0),
    TRef.binary (TRef.of (T := ⟨S2x2x3x511x512, .f32⟩) main_call1_v0) (TRef.of (T := ⟨S2x2x3x1x512, .f32⟩) main_call1_v1) (TRef.of (T := ⟨S2x2x3x512x512, .f32⟩) main_call1_v2) (fun a b => concatenate S2x2x3x512x512 3 [⟨S2x2x3x511x512, a⟩, ⟨S2x2x3x1x512, b⟩] concatenates_S2x2x3x511x512_S2x2x3x1x512_S2x2x3x512x512_d3),
    TRef.unary (TRef.of (T := ⟨S2x2x3x512x512, .f32⟩) main_call1_v2) (TRef.of (T := ⟨S2x2x3x512x512, .f32⟩) main_call1_v3) (extractStridedSlice S2x2x3x512x512 ![0, 0, 0, 0, 0] · slices_S2x2x3x512x512_S2x2x3x512x512_0_0_0_0_0),
    TRef.unary (TRef.of (T := ⟨S2x2x3x512x512, .f32⟩) main_call1_v2) (TRef.of (T := ⟨S2x2x3x512x0, .f32⟩) main_call1_v4) (extractStridedSlice S2x2x3x512x0 ![0, 0, 0, 0, 0] · slices_S2x2x3x512x512_S2x2x3x512x0_0_0_0_0_0),
    TRef.binary (TRef.of (T := ⟨S2x2x3x512x512, .f32⟩) main_call1_v3) (TRef.of (T := ⟨S2x2x3x512x0, .f32⟩) main_call1_v4) (TRef.of (T := ⟨S2x2x3x512x512, .f32⟩) main_v14) (fun a b => concatenate S2x2x3x512x512 4 [⟨S2x2x3x512x512, a⟩, ⟨S2x2x3x512x0, b⟩] concatenates_S2x2x3x512x512_S2x2x3x512x0_S2x2x3x512x512_d4),
    binary main_v14 main_v9 main_v15 (subf : (⟨S2x2x3x512x512, .f32⟩ : BufTy).Contents (Elt F) → (⟨S2x2x3x512x512, .f32⟩ : BufTy).Contents (Elt F) → (⟨S2x2x3x512x512, .f32⟩ : BufTy).Contents (Elt F)),
    binary main_v15 main_v15 main_v16 (mulf : (⟨S2x2x3x512x512, .f32⟩ : BufTy).Contents (Elt F) → (⟨S2x2x3x512x512, .f32⟩ : BufTy).Contents (Elt F) → (⟨S2x2x3x512x512, .f32⟩ : BufTy).Contents (Elt F)),
    nullary main_cst_1 (constant S_ .f32 0x00000000#32),
    binary main_v16 main_cst_1 main_v17 ((fun x v => Host.reduceAdd x v reducesTo_S2x2x3x512x512_S2x2x512x512_d2 h_S_) : (⟨S2x2x3x512x512, .f32⟩ : BufTy).Contents (Elt F) → (⟨S_, .f32⟩ : BufTy).Contents (Elt F) → (⟨S2x2x512x512, .f32⟩ : BufTy).Contents (Elt F)) ]

/-- The squared distance to the neighbour of candidate 2. -/
abbrev dist2 : List (HloOp τ sig (Elt F)) :=
  [ TRef.unary (TRef.of (T := ⟨S2x2x3x512x512, .f32⟩) main_v1) (TRef.of (T := ⟨S2x2x3x511x512, .f32⟩) main_call2_v0) (extractStridedSlice S2x2x3x511x512 ![0, 0, 0, 1, 0] · slices_S2x2x3x512x512_S2x2x3x511x512_0_0_0_1_0),
    TRef.unary (TRef.of (T := ⟨S2x2x3x512x512, .f32⟩) main_v1) (TRef.of (T := ⟨S2x2x3x1x512, .f32⟩) main_call2_v1) (extractStridedSlice S2x2x3x1x512 ![0, 0, 0, 0, 0] · slices_S2x2x3x512x512_S2x2x3x1x512_0_0_0_0_0),
    TRef.binary (TRef.of (T := ⟨S2x2x3x511x512, .f32⟩) main_call2_v0) (TRef.of (T := ⟨S2x2x3x1x512, .f32⟩) main_call2_v1) (TRef.of (T := ⟨S2x2x3x512x512, .f32⟩) main_call2_v2) (fun a b => concatenate S2x2x3x512x512 3 [⟨S2x2x3x511x512, a⟩, ⟨S2x2x3x1x512, b⟩] concatenates_S2x2x3x511x512_S2x2x3x1x512_S2x2x3x512x512_d3),
    TRef.unary (TRef.of (T := ⟨S2x2x3x512x512, .f32⟩) main_call2_v2) (TRef.of (T := ⟨S2x2x3x512x1, .f32⟩) main_call2_v3) (extractStridedSlice S2x2x3x512x1 ![0, 0, 0, 0, 511] · slices_S2x2x3x512x512_S2x2x3x512x1_0_0_0_0_511),
    TRef.unary (TRef.of (T := ⟨S2x2x3x512x512, .f32⟩) main_call2_v2) (TRef.of (T := ⟨S2x2x3x512x511, .f32⟩) main_call2_v4) (extractStridedSlice S2x2x3x512x511 ![0, 0, 0, 0, 0] · slices_S2x2x3x512x512_S2x2x3x512x511_0_0_0_0_0),
    TRef.binary (TRef.of (T := ⟨S2x2x3x512x1, .f32⟩) main_call2_v3) (TRef.of (T := ⟨S2x2x3x512x511, .f32⟩) main_call2_v4) (TRef.of (T := ⟨S2x2x3x512x512, .f32⟩) main_v18) (fun a b => concatenate S2x2x3x512x512 4 [⟨S2x2x3x512x1, a⟩, ⟨S2x2x3x512x511, b⟩] concatenates_S2x2x3x512x1_S2x2x3x512x511_S2x2x3x512x512_d4),
    binary main_v18 main_v9 main_v19 (subf : (⟨S2x2x3x512x512, .f32⟩ : BufTy).Contents (Elt F) → (⟨S2x2x3x512x512, .f32⟩ : BufTy).Contents (Elt F) → (⟨S2x2x3x512x512, .f32⟩ : BufTy).Contents (Elt F)),
    binary main_v19 main_v19 main_v20 (mulf : (⟨S2x2x3x512x512, .f32⟩ : BufTy).Contents (Elt F) → (⟨S2x2x3x512x512, .f32⟩ : BufTy).Contents (Elt F) → (⟨S2x2x3x512x512, .f32⟩ : BufTy).Contents (Elt F)),
    nullary main_cst_2 (constant S_ .f32 0x00000000#32),
    binary main_v20 main_cst_2 main_v21 ((fun x v => Host.reduceAdd x v reducesTo_S2x2x3x512x512_S2x2x512x512_d2 h_S_) : (⟨S2x2x3x512x512, .f32⟩ : BufTy).Contents (Elt F) → (⟨S_, .f32⟩ : BufTy).Contents (Elt F) → (⟨S2x2x512x512, .f32⟩ : BufTy).Contents (Elt F)) ]

/-- The squared distance to the neighbour of candidate 3. -/
abbrev dist3 : List (HloOp τ sig (Elt F)) :=
  [ TRef.unary (TRef.of (T := ⟨S2x2x3x512x512, .f32⟩) main_v1) (TRef.of (T := ⟨S2x2x3x512x512, .f32⟩) main_call3_v0) (extractStridedSlice S2x2x3x512x512 ![0, 0, 0, 0, 0] · slices_S2x2x3x512x512_S2x2x3x512x512_0_0_0_0_0),
    TRef.unary (TRef.of (T := ⟨S2x2x3x512x512, .f32⟩) main_v1) (TRef.of (T := ⟨S2x2x3x0x512, .f32⟩) main_call3_v1) (extractStridedSlice S2x2x3x0x512 ![0, 0, 0, 0, 0] · slices_S2x2x3x512x512_S2x2x3x0x512_0_0_0_0_0),
    TRef.binary (TRef.of (T := ⟨S2x2x3x512x512, .f32⟩) main_call3_v0) (TRef.of (T := ⟨S2x2x3x0x512, .f32⟩) main_call3_v1) (TRef.of (T := ⟨S2x2x3x512x512, .f32⟩) main_call3_v2) (fun a b => concatenate S2x2x3x512x512 3 [⟨S2x2x3x512x512, a⟩, ⟨S2x2x3x0x512, b⟩] concatenates_S2x2x3x512x512_S2x2x3x0x512_S2x2x3x512x512_d3),
    TRef.unary (TRef.of (T := ⟨S2x2x3x512x512, .f32⟩) main_call3_v2) (TRef.of (T := ⟨S2x2x3x512x511, .f32⟩) main_call3_v3) (extractStridedSlice S2x2x3x512x511 ![0, 0, 0, 0, 1] · slices_S2x2x3x512x512_S2x2x3x512x511_0_0_0_0_1),
    TRef.unary (TRef.of (T := ⟨S2x2x3x512x512, .f32⟩) main_call3_v2) (TRef.of (T := ⟨S2x2x3x512x1, .f32⟩) main_call3_v4) (extractStridedSlice S2x2x3x512x1 ![0, 0, 0, 0, 0] · slices_S2x2x3x512x512_S2x2x3x512x1_0_0_0_0_0),
    TRef.binary (TRef.of (T := ⟨S2x2x3x512x511, .f32⟩) main_call3_v3) (TRef.of (T := ⟨S2x2x3x512x1, .f32⟩) main_call3_v4) (TRef.of (T := ⟨S2x2x3x512x512, .f32⟩) main_v22) (fun a b => concatenate S2x2x3x512x512 4 [⟨S2x2x3x512x511, a⟩, ⟨S2x2x3x512x1, b⟩] concatenates_S2x2x3x512x511_S2x2x3x512x1_S2x2x3x512x512_d4),
    binary main_v22 main_v9 main_v23 (subf : (⟨S2x2x3x512x512, .f32⟩ : BufTy).Contents (Elt F) → (⟨S2x2x3x512x512, .f32⟩ : BufTy).Contents (Elt F) → (⟨S2x2x3x512x512, .f32⟩ : BufTy).Contents (Elt F)),
    binary main_v23 main_v23 main_v24 (mulf : (⟨S2x2x3x512x512, .f32⟩ : BufTy).Contents (Elt F) → (⟨S2x2x3x512x512, .f32⟩ : BufTy).Contents (Elt F) → (⟨S2x2x3x512x512, .f32⟩ : BufTy).Contents (Elt F)),
    nullary main_cst_3 (constant S_ .f32 0x00000000#32),
    binary main_v24 main_cst_3 main_v25 ((fun x v => Host.reduceAdd x v reducesTo_S2x2x3x512x512_S2x2x512x512_d2 h_S_) : (⟨S2x2x3x512x512, .f32⟩ : BufTy).Contents (Elt F) → (⟨S_, .f32⟩ : BufTy).Contents (Elt F) → (⟨S2x2x512x512, .f32⟩ : BufTy).Contents (Elt F)) ]

/-- The squared distance to the neighbour of candidate 4. -/
abbrev dist4 : List (HloOp τ sig (Elt F)) :=
  [ TRef.unary (TRef.of (T := ⟨S2x2x3x512x512, .f32⟩) main_v1) (TRef.of (T := ⟨S2x2x3x512x512, .f32⟩) main_call4_v0) (extractStridedSlice S2x2x3x512x512 ![0, 0, 0, 0, 0] · slices_S2x2x3x512x512_S2x2x3x512x512_0_0_0_0_0),
    TRef.unary (TRef.of (T := ⟨S2x2x3x512x512, .f32⟩) main_v1) (TRef.of (T := ⟨S2x2x3x0x512, .f32⟩) main_call4_v1) (extractStridedSlice S2x2x3x0x512 ![0, 0, 0, 0, 0] · slices_S2x2x3x512x512_S2x2x3x0x512_0_0_0_0_0),
    TRef.binary (TRef.of (T := ⟨S2x2x3x512x512, .f32⟩) main_call4_v0) (TRef.of (T := ⟨S2x2x3x0x512, .f32⟩) main_call4_v1) (TRef.of (T := ⟨S2x2x3x512x512, .f32⟩) main_call4_v2) (fun a b => concatenate S2x2x3x512x512 3 [⟨S2x2x3x512x512, a⟩, ⟨S2x2x3x0x512, b⟩] concatenates_S2x2x3x512x512_S2x2x3x0x512_S2x2x3x512x512_d3),
    TRef.unary (TRef.of (T := ⟨S2x2x3x512x512, .f32⟩) main_call4_v2) (TRef.of (T := ⟨S2x2x3x512x512, .f32⟩) main_call4_v3) (extractStridedSlice S2x2x3x512x512 ![0, 0, 0, 0, 0] · slices_S2x2x3x512x512_S2x2x3x512x512_0_0_0_0_0),
    TRef.unary (TRef.of (T := ⟨S2x2x3x512x512, .f32⟩) main_call4_v2) (TRef.of (T := ⟨S2x2x3x512x0, .f32⟩) main_call4_v4) (extractStridedSlice S2x2x3x512x0 ![0, 0, 0, 0, 0] · slices_S2x2x3x512x512_S2x2x3x512x0_0_0_0_0_0),
    TRef.binary (TRef.of (T := ⟨S2x2x3x512x512, .f32⟩) main_call4_v3) (TRef.of (T := ⟨S2x2x3x512x0, .f32⟩) main_call4_v4) (TRef.of (T := ⟨S2x2x3x512x512, .f32⟩) main_v26) (fun a b => concatenate S2x2x3x512x512 4 [⟨S2x2x3x512x512, a⟩, ⟨S2x2x3x512x0, b⟩] concatenates_S2x2x3x512x512_S2x2x3x512x0_S2x2x3x512x512_d4),
    binary main_v26 main_v9 main_v27 (subf : (⟨S2x2x3x512x512, .f32⟩ : BufTy).Contents (Elt F) → (⟨S2x2x3x512x512, .f32⟩ : BufTy).Contents (Elt F) → (⟨S2x2x3x512x512, .f32⟩ : BufTy).Contents (Elt F)),
    binary main_v27 main_v27 main_v28 (mulf : (⟨S2x2x3x512x512, .f32⟩ : BufTy).Contents (Elt F) → (⟨S2x2x3x512x512, .f32⟩ : BufTy).Contents (Elt F) → (⟨S2x2x3x512x512, .f32⟩ : BufTy).Contents (Elt F)),
    nullary main_cst_4 (constant S_ .f32 0x00000000#32),
    binary main_v28 main_cst_4 main_v29 ((fun x v => Host.reduceAdd x v reducesTo_S2x2x3x512x512_S2x2x512x512_d2 h_S_) : (⟨S2x2x3x512x512, .f32⟩ : BufTy).Contents (Elt F) → (⟨S_, .f32⟩ : BufTy).Contents (Elt F) → (⟨S2x2x512x512, .f32⟩ : BufTy).Contents (Elt F)) ]

/-- The squared distance to the neighbour of candidate 5. -/
abbrev dist5 : List (HloOp τ sig (Elt F)) :=
  [ TRef.unary (TRef.of (T := ⟨S2x2x3x512x512, .f32⟩) main_v1) (TRef.of (T := ⟨S2x2x3x512x512, .f32⟩) main_call5_v0) (extractStridedSlice S2x2x3x512x512 ![0, 0, 0, 0, 0] · slices_S2x2x3x512x512_S2x2x3x512x512_0_0_0_0_0),
    TRef.unary (TRef.of (T := ⟨S2x2x3x512x512, .f32⟩) main_v1) (TRef.of (T := ⟨S2x2x3x0x512, .f32⟩) main_call5_v1) (extractStridedSlice S2x2x3x0x512 ![0, 0, 0, 0, 0] · slices_S2x2x3x512x512_S2x2x3x0x512_0_0_0_0_0),
    TRef.binary (TRef.of (T := ⟨S2x2x3x512x512, .f32⟩) main_call5_v0) (TRef.of (T := ⟨S2x2x3x0x512, .f32⟩) main_call5_v1) (TRef.of (T := ⟨S2x2x3x512x512, .f32⟩) main_call5_v2) (fun a b => concatenate S2x2x3x512x512 3 [⟨S2x2x3x512x512, a⟩, ⟨S2x2x3x0x512, b⟩] concatenates_S2x2x3x512x512_S2x2x3x0x512_S2x2x3x512x512_d3),
    TRef.unary (TRef.of (T := ⟨S2x2x3x512x512, .f32⟩) main_call5_v2) (TRef.of (T := ⟨S2x2x3x512x1, .f32⟩) main_call5_v3) (extractStridedSlice S2x2x3x512x1 ![0, 0, 0, 0, 511] · slices_S2x2x3x512x512_S2x2x3x512x1_0_0_0_0_511),
    TRef.unary (TRef.of (T := ⟨S2x2x3x512x512, .f32⟩) main_call5_v2) (TRef.of (T := ⟨S2x2x3x512x511, .f32⟩) main_call5_v4) (extractStridedSlice S2x2x3x512x511 ![0, 0, 0, 0, 0] · slices_S2x2x3x512x512_S2x2x3x512x511_0_0_0_0_0),
    TRef.binary (TRef.of (T := ⟨S2x2x3x512x1, .f32⟩) main_call5_v3) (TRef.of (T := ⟨S2x2x3x512x511, .f32⟩) main_call5_v4) (TRef.of (T := ⟨S2x2x3x512x512, .f32⟩) main_v30) (fun a b => concatenate S2x2x3x512x512 4 [⟨S2x2x3x512x1, a⟩, ⟨S2x2x3x512x511, b⟩] concatenates_S2x2x3x512x1_S2x2x3x512x511_S2x2x3x512x512_d4),
    binary main_v30 main_v9 main_v31 (subf : (⟨S2x2x3x512x512, .f32⟩ : BufTy).Contents (Elt F) → (⟨S2x2x3x512x512, .f32⟩ : BufTy).Contents (Elt F) → (⟨S2x2x3x512x512, .f32⟩ : BufTy).Contents (Elt F)),
    binary main_v31 main_v31 main_v32 (mulf : (⟨S2x2x3x512x512, .f32⟩ : BufTy).Contents (Elt F) → (⟨S2x2x3x512x512, .f32⟩ : BufTy).Contents (Elt F) → (⟨S2x2x3x512x512, .f32⟩ : BufTy).Contents (Elt F)),
    nullary main_cst_5 (constant S_ .f32 0x00000000#32),
    binary main_v32 main_cst_5 main_v33 ((fun x v => Host.reduceAdd x v reducesTo_S2x2x3x512x512_S2x2x512x512_d2 h_S_) : (⟨S2x2x3x512x512, .f32⟩ : BufTy).Contents (Elt F) → (⟨S_, .f32⟩ : BufTy).Contents (Elt F) → (⟨S2x2x512x512, .f32⟩ : BufTy).Contents (Elt F)) ]

/-- The squared distance to the neighbour of candidate 6. -/
abbrev dist6 : List (HloOp τ sig (Elt F)) :=
  [ TRef.unary (TRef.of (T := ⟨S2x2x3x512x512, .f32⟩) main_v1) (TRef.of (T := ⟨S2x2x3x1x512, .f32⟩) main_call6_v0) (extractStridedSlice S2x2x3x1x512 ![0, 0, 0, 511, 0] · slices_S2x2x3x512x512_S2x2x3x1x512_0_0_0_511_0),
    TRef.unary (TRef.of (T := ⟨S2x2x3x512x512, .f32⟩) main_v1) (TRef.of (T := ⟨S2x2x3x511x512, .f32⟩) main_call6_v1) (extractStridedSlice S2x2x3x511x512 ![0, 0, 0, 0, 0] · slices_S2x2x3x512x512_S2x2x3x511x512_0_0_0_0_0),
    TRef.binary (TRef.of (T := ⟨S2x2x3x1x512, .f32⟩) main_call6_v0) (TRef.of (T := ⟨S2x2x3x511x512, .f32⟩) main_call6_v1) (TRef.of (T := ⟨S2x2x3x512x512, .f32⟩) main_call6_v2) (fun a b => concatenate S2x2x3x512x512 3 [⟨S2x2x3x1x512, a⟩, ⟨S2x2x3x511x512, b⟩] concatenates_S2x2x3x1x512_S2x2x3x511x512_S2x2x3x512x512_d3),
    TRef.unary (TRef.of (T := ⟨S2x2x3x512x512, .f32⟩) main_call6_v2) (TRef.of (T := ⟨S2x2x3x512x511, .f32⟩) main_call6_v3) (extractStridedSlice S2x2x3x512x511 ![0, 0, 0, 0, 1] · slices_S2x2x3x512x512_S2x2x3x512x511_0_0_0_0_1),
    TRef.unary (TRef.of (T := ⟨S2x2x3x512x512, .f32⟩) main_call6_v2) (TRef.of (T := ⟨S2x2x3x512x1, .f32⟩) main_call6_v4) (extractStridedSlice S2x2x3x512x1 ![0, 0, 0, 0, 0] · slices_S2x2x3x512x512_S2x2x3x512x1_0_0_0_0_0),
    TRef.binary (TRef.of (T := ⟨S2x2x3x512x511, .f32⟩) main_call6_v3) (TRef.of (T := ⟨S2x2x3x512x1, .f32⟩) main_call6_v4) (TRef.of (T := ⟨S2x2x3x512x512, .f32⟩) main_v34) (fun a b => concatenate S2x2x3x512x512 4 [⟨S2x2x3x512x511, a⟩, ⟨S2x2x3x512x1, b⟩] concatenates_S2x2x3x512x511_S2x2x3x512x1_S2x2x3x512x512_d4),
    binary main_v34 main_v9 main_v35 (subf : (⟨S2x2x3x512x512, .f32⟩ : BufTy).Contents (Elt F) → (⟨S2x2x3x512x512, .f32⟩ : BufTy).Contents (Elt F) → (⟨S2x2x3x512x512, .f32⟩ : BufTy).Contents (Elt F)),
    binary main_v35 main_v35 main_v36 (mulf : (⟨S2x2x3x512x512, .f32⟩ : BufTy).Contents (Elt F) → (⟨S2x2x3x512x512, .f32⟩ : BufTy).Contents (Elt F) → (⟨S2x2x3x512x512, .f32⟩ : BufTy).Contents (Elt F)),
    nullary main_cst_6 (constant S_ .f32 0x00000000#32),
    binary main_v36 main_cst_6 main_v37 ((fun x v => Host.reduceAdd x v reducesTo_S2x2x3x512x512_S2x2x512x512_d2 h_S_) : (⟨S2x2x3x512x512, .f32⟩ : BufTy).Contents (Elt F) → (⟨S_, .f32⟩ : BufTy).Contents (Elt F) → (⟨S2x2x512x512, .f32⟩ : BufTy).Contents (Elt F)) ]

/-- The squared distance to the neighbour of candidate 7. -/
abbrev dist7 : List (HloOp τ sig (Elt F)) :=
  [ TRef.unary (TRef.of (T := ⟨S2x2x3x512x512, .f32⟩) main_v1) (TRef.of (T := ⟨S2x2x3x1x512, .f32⟩) main_call7_v0) (extractStridedSlice S2x2x3x1x512 ![0, 0, 0, 511, 0] · slices_S2x2x3x512x512_S2x2x3x1x512_0_0_0_511_0),
    TRef.unary (TRef.of (T := ⟨S2x2x3x512x512, .f32⟩) main_v1) (TRef.of (T := ⟨S2x2x3x511x512, .f32⟩) main_call7_v1) (extractStridedSlice S2x2x3x511x512 ![0, 0, 0, 0, 0] · slices_S2x2x3x512x512_S2x2x3x511x512_0_0_0_0_0),
    TRef.binary (TRef.of (T := ⟨S2x2x3x1x512, .f32⟩) main_call7_v0) (TRef.of (T := ⟨S2x2x3x511x512, .f32⟩) main_call7_v1) (TRef.of (T := ⟨S2x2x3x512x512, .f32⟩) main_call7_v2) (fun a b => concatenate S2x2x3x512x512 3 [⟨S2x2x3x1x512, a⟩, ⟨S2x2x3x511x512, b⟩] concatenates_S2x2x3x1x512_S2x2x3x511x512_S2x2x3x512x512_d3),
    TRef.unary (TRef.of (T := ⟨S2x2x3x512x512, .f32⟩) main_call7_v2) (TRef.of (T := ⟨S2x2x3x512x512, .f32⟩) main_call7_v3) (extractStridedSlice S2x2x3x512x512 ![0, 0, 0, 0, 0] · slices_S2x2x3x512x512_S2x2x3x512x512_0_0_0_0_0),
    TRef.unary (TRef.of (T := ⟨S2x2x3x512x512, .f32⟩) main_call7_v2) (TRef.of (T := ⟨S2x2x3x512x0, .f32⟩) main_call7_v4) (extractStridedSlice S2x2x3x512x0 ![0, 0, 0, 0, 0] · slices_S2x2x3x512x512_S2x2x3x512x0_0_0_0_0_0),
    TRef.binary (TRef.of (T := ⟨S2x2x3x512x512, .f32⟩) main_call7_v3) (TRef.of (T := ⟨S2x2x3x512x0, .f32⟩) main_call7_v4) (TRef.of (T := ⟨S2x2x3x512x512, .f32⟩) main_v38) (fun a b => concatenate S2x2x3x512x512 4 [⟨S2x2x3x512x512, a⟩, ⟨S2x2x3x512x0, b⟩] concatenates_S2x2x3x512x512_S2x2x3x512x0_S2x2x3x512x512_d4),
    binary main_v38 main_v9 main_v39 (subf : (⟨S2x2x3x512x512, .f32⟩ : BufTy).Contents (Elt F) → (⟨S2x2x3x512x512, .f32⟩ : BufTy).Contents (Elt F) → (⟨S2x2x3x512x512, .f32⟩ : BufTy).Contents (Elt F)),
    binary main_v39 main_v39 main_v40 (mulf : (⟨S2x2x3x512x512, .f32⟩ : BufTy).Contents (Elt F) → (⟨S2x2x3x512x512, .f32⟩ : BufTy).Contents (Elt F) → (⟨S2x2x3x512x512, .f32⟩ : BufTy).Contents (Elt F)),
    nullary main_cst_7 (constant S_ .f32 0x00000000#32),
    binary main_v40 main_cst_7 main_v41 ((fun x v => Host.reduceAdd x v reducesTo_S2x2x3x512x512_S2x2x512x512_d2 h_S_) : (⟨S2x2x3x512x512, .f32⟩ : BufTy).Contents (Elt F) → (⟨S_, .f32⟩ : BufTy).Contents (Elt F) → (⟨S2x2x512x512, .f32⟩ : BufTy).Contents (Elt F)) ]

/-- The squared distance to the neighbour of candidate 8. -/
abbrev dist8 : List (HloOp τ sig (Elt F)) :=
  [ TRef.unary (TRef.of (T := ⟨S2x2x3x512x512, .f32⟩) main_v1) (TRef.of (T := ⟨S2x2x3x1x512, .f32⟩) main_call8_v0) (extractStridedSlice S2x2x3x1x512 ![0, 0, 0, 511, 0] · slices_S2x2x3x512x512_S2x2x3x1x512_0_0_0_511_0),
    TRef.unary (TRef.of (T := ⟨S2x2x3x512x512, .f32⟩) main_v1) (TRef.of (T := ⟨S2x2x3x511x512, .f32⟩) main_call8_v1) (extractStridedSlice S2x2x3x511x512 ![0, 0, 0, 0, 0] · slices_S2x2x3x512x512_S2x2x3x511x512_0_0_0_0_0),
    TRef.binary (TRef.of (T := ⟨S2x2x3x1x512, .f32⟩) main_call8_v0) (TRef.of (T := ⟨S2x2x3x511x512, .f32⟩) main_call8_v1) (TRef.of (T := ⟨S2x2x3x512x512, .f32⟩) main_call8_v2) (fun a b => concatenate S2x2x3x512x512 3 [⟨S2x2x3x1x512, a⟩, ⟨S2x2x3x511x512, b⟩] concatenates_S2x2x3x1x512_S2x2x3x511x512_S2x2x3x512x512_d3),
    TRef.unary (TRef.of (T := ⟨S2x2x3x512x512, .f32⟩) main_call8_v2) (TRef.of (T := ⟨S2x2x3x512x1, .f32⟩) main_call8_v3) (extractStridedSlice S2x2x3x512x1 ![0, 0, 0, 0, 511] · slices_S2x2x3x512x512_S2x2x3x512x1_0_0_0_0_511),
    TRef.unary (TRef.of (T := ⟨S2x2x3x512x512, .f32⟩) main_call8_v2) (TRef.of (T := ⟨S2x2x3x512x511, .f32⟩) main_call8_v4) (extractStridedSlice S2x2x3x512x511 ![0, 0, 0, 0, 0] · slices_S2x2x3x512x512_S2x2x3x512x511_0_0_0_0_0),
    TRef.binary (TRef.of (T := ⟨S2x2x3x512x1, .f32⟩) main_call8_v3) (TRef.of (T := ⟨S2x2x3x512x511, .f32⟩) main_call8_v4) (TRef.of (T := ⟨S2x2x3x512x512, .f32⟩) main_v42) (fun a b => concatenate S2x2x3x512x512 4 [⟨S2x2x3x512x1, a⟩, ⟨S2x2x3x512x511, b⟩] concatenates_S2x2x3x512x1_S2x2x3x512x511_S2x2x3x512x512_d4),
    binary main_v42 main_v9 main_v43 (subf : (⟨S2x2x3x512x512, .f32⟩ : BufTy).Contents (Elt F) → (⟨S2x2x3x512x512, .f32⟩ : BufTy).Contents (Elt F) → (⟨S2x2x3x512x512, .f32⟩ : BufTy).Contents (Elt F)),
    binary main_v43 main_v43 main_v44 (mulf : (⟨S2x2x3x512x512, .f32⟩ : BufTy).Contents (Elt F) → (⟨S2x2x3x512x512, .f32⟩ : BufTy).Contents (Elt F) → (⟨S2x2x3x512x512, .f32⟩ : BufTy).Contents (Elt F)),
    nullary main_cst_8 (constant S_ .f32 0x00000000#32),
    binary main_v44 main_cst_8 main_v45 ((fun x v => Host.reduceAdd x v reducesTo_S2x2x3x512x512_S2x2x512x512_d2 h_S_) : (⟨S2x2x3x512x512, .f32⟩ : BufTy).Contents (Elt F) → (⟨S_, .f32⟩ : BufTy).Contents (Elt F) → (⟨S2x2x512x512, .f32⟩ : BufTy).Contents (Elt F)) ]

/-- The first four distances get a candidate axis. -/
abbrev stackA : List (HloOp τ sig (Elt F)) :=
  [ unary main_v13 main_v46 (broadcastInDim S2x2x1x512x512 ![0, 1, 3, 4] bcast_S2x2x512x512_S2x2x1x512x512_0_1_3_4 : (⟨S2x2x512x512, .f32⟩ : BufTy).Contents (Elt F) → (⟨S2x2x1x512x512, .f32⟩ : BufTy).Contents (Elt F)),
    unary main_v17 main_v47 (broadcastInDim S2x2x1x512x512 ![0, 1, 3, 4] bcast_S2x2x512x512_S2x2x1x512x512_0_1_3_4 : (⟨S2x2x512x512, .f32⟩ : BufTy).Contents (Elt F) → (⟨S2x2x1x512x512, .f32⟩ : BufTy).Contents (Elt F)),
    unary main_v21 main_v48 (broadcastInDim S2x2x1x512x512 ![0, 1, 3, 4] bcast_S2x2x512x512_S2x2x1x512x512_0_1_3_4 : (⟨S2x2x512x512, .f32⟩ : BufTy).Contents (Elt F) → (⟨S2x2x1x512x512, .f32⟩ : BufTy).Contents (Elt F)),
    unary main_v25 main_v49 (broadcastInDim S2x2x1x512x512 ![0, 1, 3, 4] bcast_S2x2x512x512_S2x2x1x512x512_0_1_3_4 : (⟨S2x2x512x512, .f32⟩ : BufTy).Contents (Elt F) → (⟨S2x2x1x512x512, .f32⟩ : BufTy).Contents (Elt F)) ]

/-- The other five, the nine stacked, and their negation. -/
abbrev stackB : List (HloOp τ sig (Elt F)) :=
  [ unary main_v29 main_v50 (broadcastInDim S2x2x1x512x512 ![0, 1, 3, 4] bcast_S2x2x512x512_S2x2x1x512x512_0_1_3_4 : (⟨S2x2x512x512, .f32⟩ : BufTy).Contents (Elt F) → (⟨S2x2x1x512x512, .f32⟩ : BufTy).Contents (Elt F)),
    unary main_v33 main_v51 (broadcastInDim S2x2x1x512x512 ![0, 1, 3, 4] bcast_S2x2x512x512_S2x2x1x512x512_0_1_3_4 : (⟨S2x2x512x512, .f32⟩ : BufTy).Contents (Elt F) → (⟨S2x2x1x512x512, .f32⟩ : BufTy).Contents (Elt F)),
    unary main_v37 main_v52 (broadcastInDim S2x2x1x512x512 ![0, 1, 3, 4] bcast_S2x2x512x512_S2x2x1x512x512_0_1_3_4 : (⟨S2x2x512x512, .f32⟩ : BufTy).Contents (Elt F) → (⟨S2x2x1x512x512, .f32⟩ : BufTy).Contents (Elt F)),
    unary main_v41 main_v53 (broadcastInDim S2x2x1x512x512 ![0, 1, 3, 4] bcast_S2x2x512x512_S2x2x1x512x512_0_1_3_4 : (⟨S2x2x512x512, .f32⟩ : BufTy).Contents (Elt F) → (⟨S2x2x1x512x512, .f32⟩ : BufTy).Contents (Elt F)),
    unary main_v45 main_v54 (broadcastInDim S2x2x1x512x512 ![0, 1, 3, 4] bcast_S2x2x512x512_S2x2x1x512x512_0_1_3_4 : (⟨S2x2x512x512, .f32⟩ : BufTy).Contents (Elt F) → (⟨S2x2x1x512x512, .f32⟩ : BufTy).Contents (Elt F)),
    nary ![main_v46, main_v47, main_v48, main_v49, main_v50, main_v51, main_v52, main_v53, main_v54] main_v55 (fun u => (concatenate S2x2x9x512x512 2 [⟨S2x2x1x512x512, (u 0 : (⟨S2x2x1x512x512, .f32⟩ : BufTy).Contents (Elt F))⟩, ⟨S2x2x1x512x512, (u 1 : (⟨S2x2x1x512x512, .f32⟩ : BufTy).Contents (Elt F))⟩, ⟨S2x2x1x512x512, (u 2 : (⟨S2x2x1x512x512, .f32⟩ : BufTy).Contents (Elt F))⟩, ⟨S2x2x1x512x512, (u 3 : (⟨S2x2x1x512x512, .f32⟩ : BufTy).Contents (Elt F))⟩, ⟨S2x2x1x512x512, (u 4 : (⟨S2x2x1x512x512, .f32⟩ : BufTy).Contents (Elt F))⟩, ⟨S2x2x1x512x512, (u 5 : (⟨S2x2x1x512x512, .f32⟩ : BufTy).Contents (Elt F))⟩, ⟨S2x2x1x512x512, (u 6 : (⟨S2x2x1x512x512, .f32⟩ : BufTy).Contents (Elt F))⟩, ⟨S2x2x1x512x512, (u 7 : (⟨S2x2x1x512x512, .f32⟩ : BufTy).Contents (Elt F))⟩, ⟨S2x2x1x512x512, (u 8 : (⟨S2x2x1x512x512, .f32⟩ : BufTy).Contents (Elt F))⟩] concatenates_S2x2x1x512x512_S2x2x1x512x512_S2x2x1x512x512_S2x2x1x512x512_S2x2x1x512x512_S2x2x1x512x512_S2x2x1x512x512_S2x2x1x512x512_S2x2x1x512x512_S2x2x9x512x512_d2 : (⟨S2x2x9x512x512, .f32⟩ : BufTy).Contents (Elt F))),
    unary main_v55 main_v56 (Host.negf : (⟨S2x2x9x512x512, .f32⟩ : BufTy).Contents (Elt F) → (⟨S2x2x9x512x512, .f32⟩ : BufTy).Contents (Elt F)) ]

/-- The first index of the greatest, as a one-hot array over the candidate axis. -/
abbrev pick : List (HloOp τ sig (Elt F)) :=
  [ TRef.nullary (TRef.of (T := ⟨S2x2x9x512x512, .i32⟩) main_call9_v0) (iotaInDim S2x2x9x512x512 32 2),
    TRef.nullary (TRef.of (T := ⟨S_, .f32⟩) main_call9_cst) (constant S_ .f32 0xFF800000#32),
    TRef.nullary (TRef.of (T := ⟨S_, .i32⟩) main_call9_c) (constantI S_ 32 0#32),
    TRef.quaternary (TRef.of (T := ⟨S2x2x9x512x512, .f32⟩) main_v56) (TRef.of (T := ⟨S2x2x9x512x512, .i32⟩) main_call9_v0) (TRef.of (T := ⟨S_, .f32⟩) main_call9_cst) (TRef.of (T := ⟨S_, .i32⟩) main_call9_c) (TRef.of (T := ⟨S2x2x512x512, .f32⟩) main_call9_v1_0) (fun x y u v j => (Host.argReduce reducer_argmax_f32_i32 x y u v reducesTo_S2x2x9x512x512_S2x2x512x512_d2 h_S_ j).1),
    TRef.quaternary (TRef.of (T := ⟨S2x2x9x512x512, .f32⟩) main_v56) (TRef.of (T := ⟨S2x2x9x512x512, .i32⟩) main_call9_v0) (TRef.of (T := ⟨S_, .f32⟩) main_call9_cst) (TRef.of (T := ⟨S_, .i32⟩) main_call9_c) (TRef.of (T := ⟨S2x2x512x512, .i32⟩) main_v57) (fun x y u v j => (Host.argReduce reducer_argmax_f32_i32 x y u v reducesTo_S2x2x9x512x512_S2x2x512x512_d2 h_S_ j).2),
    TRef.unary (TRef.of (T := ⟨S2x2x512x512, .i32⟩) main_v57) (TRef.of (T := ⟨S2x2x512x512x1, .i32⟩) main_call10_v0) (broadcastInDim S2x2x512x512x1 ![0, 1, 2, 3] bcast_S2x2x512x512_S2x2x512x512x1_0_1_2_3),
    TRef.nullary (TRef.of (T := ⟨S1x1x1x1x9, .i32⟩) main_call10_v1) (iotaInDim S1x1x1x1x9 32 4),
    TRef.unary (TRef.of (T := ⟨S2x2x512x512x1, .i32⟩) main_call10_v0) (TRef.of (T := ⟨S2x2x512x512x9, .i32⟩) main_call10_v2) (broadcastInDim S2x2x512x512x9 ![0, 1, 2, 3, 4] bcast_S2x2x512x512x1_S2x2x512x512x9_0_1_2_3_4),
    TRef.unary (TRef.of (T := ⟨S1x1x1x1x9, .i32⟩) main_call10_v1) (TRef.of (T := ⟨S2x2x512x512x9, .i32⟩) main_call10_v3) (broadcastInDim S2x2x512x512x9 ![0, 1, 2, 3, 4] bcast_S1x1x1x1x9_S2x2x512x512x9_0_1_2_3_4),
    TRef.binary (TRef.of (T := ⟨S2x2x512x512x9, .i32⟩) main_call10_v2) (TRef.of (T := ⟨S2x2x512x512x9, .i32⟩) main_call10_v3) (TRef.of (T := ⟨S2x2x512x512x9, .i1⟩) main_call10_v4) (cmpi .eq),
    TRef.unary (TRef.of (T := ⟨S2x2x512x512x9, .i1⟩) main_call10_v4) (TRef.of (T := ⟨S2x2x512x512x9, .f32⟩) main_v58) (uitofp .f32),
    unary main_v58 main_v59 ((transpose S2x2x9x512x512 [0, 1, 4, 2, 3] · transposes_S2x2x512x512x9_S2x2x9x512x512_0_1_4_2_3) : (⟨S2x2x512x512x9, .f32⟩ : BufTy).Contents (Elt F) → (⟨S2x2x9x512x512, .f32⟩ : BufTy).Contents (Elt F)) ]

/-- Where the mask and the depth both hold, as 0 or 1. -/
abbrev valid : List (HloOp τ sig (Elt F)) :=
  [ nullary main_cst_9 (constant S_ .f32 0x3F000000#32),
    unary main_cst_9 main_v60 (broadcastInDim S2x2x1x512x512 ![] bcast_S_S2x2x1x512x512 : (⟨S_, .f32⟩ : BufTy).Contents (Elt F) → (⟨S2x2x1x512x512, .f32⟩ : BufTy).Contents (Elt F)),
    binary main_arg3 main_v60 main_v61 (cmpf .ogt : (⟨S2x2x1x512x512, .f32⟩ : BufTy).Contents (Elt F) → (⟨S2x2x1x512x512, .f32⟩ : BufTy).Contents (Elt F) → (⟨S2x2x1x512x512, .i1⟩ : BufTy).Contents (Elt F)),
    unary main_v61 main_v62 (uitofp .f32 : (⟨S2x2x1x512x512, .i1⟩ : BufTy).Contents (Elt F) → (⟨S2x2x1x512x512, .f32⟩ : BufTy).Contents (Elt F)),
    nullary main_cst_10 (constant S_ .f32 0x00000000#32),
    unary main_cst_10 main_v63 (broadcastInDim S2x2x1x512x512 ![] bcast_S_S2x2x1x512x512 : (⟨S_, .f32⟩ : BufTy).Contents (Elt F) → (⟨S2x2x1x512x512, .f32⟩ : BufTy).Contents (Elt F)),
    binary main_arg2 main_v63 main_v64 (cmpf .ogt : (⟨S2x2x1x512x512, .f32⟩ : BufTy).Contents (Elt F) → (⟨S2x2x1x512x512, .f32⟩ : BufTy).Contents (Elt F) → (⟨S2x2x1x512x512, .i1⟩ : BufTy).Contents (Elt F)),
    unary main_v64 main_v65 (uitofp .f32 : (⟨S2x2x1x512x512, .i1⟩ : BufTy).Contents (Elt F) → (⟨S2x2x1x512x512, .f32⟩ : BufTy).Contents (Elt F)),
    binary main_v62 main_v65 main_v66 (mulf : (⟨S2x2x1x512x512, .f32⟩ : BufTy).Contents (Elt F) → (⟨S2x2x1x512x512, .f32⟩ : BufTy).Contents (Elt F) → (⟨S2x2x1x512x512, .f32⟩ : BufTy).Contents (Elt F)) ]

/-- The one-hot weights where valid, zero elsewhere. -/
abbrev keep : List (HloOp τ sig (Elt F)) :=
  [ nullary main_cst_11 (constant S_ .f32 0x00000000#32),
    unary main_cst_11 main_v67 (broadcastInDim S2x2x9x512x512 ![] bcast_S_S2x2x9x512x512 : (⟨S_, .f32⟩ : BufTy).Contents (Elt F) → (⟨S2x2x9x512x512, .f32⟩ : BufTy).Contents (Elt F)),
    binary main_v55 main_v67 main_v68 (mulf : (⟨S2x2x9x512x512, .f32⟩ : BufTy).Contents (Elt F) → (⟨S2x2x9x512x512, .f32⟩ : BufTy).Contents (Elt F) → (⟨S2x2x9x512x512, .f32⟩ : BufTy).Contents (Elt F)),
    unary main_v66 main_v69 (broadcastInDim S2x2x9x512x512 ![0, 1, 2, 3, 4] bcast_S2x2x1x512x512_S2x2x9x512x512_0_1_2_3_4 : (⟨S2x2x1x512x512, .f32⟩ : BufTy).Contents (Elt F) → (⟨S2x2x9x512x512, .f32⟩ : BufTy).Contents (Elt F)),
    binary main_v69 main_v68 main_v70 (addf : (⟨S2x2x9x512x512, .f32⟩ : BufTy).Contents (Elt F) → (⟨S2x2x9x512x512, .f32⟩ : BufTy).Contents (Elt F) → (⟨S2x2x9x512x512, .f32⟩ : BufTy).Contents (Elt F)),
    nullary main_cst_12 (constant S_ .f32 0x3F000000#32),
    unary main_cst_12 main_v71 (broadcastInDim S2x2x9x512x512 ![] bcast_S_S2x2x9x512x512 : (⟨S_, .f32⟩ : BufTy).Contents (Elt F) → (⟨S2x2x9x512x512, .f32⟩ : BufTy).Contents (Elt F)),
    binary main_v70 main_v71 main_v72 (cmpf .ogt : (⟨S2x2x9x512x512, .f32⟩ : BufTy).Contents (Elt F) → (⟨S2x2x9x512x512, .f32⟩ : BufTy).Contents (Elt F) → (⟨S2x2x9x512x512, .i1⟩ : BufTy).Contents (Elt F)),
    nullary main_cst_13 (constant S_ .f32 0x00000000#32),
    unary main_cst_13 main_v73 (broadcastInDim S2x2x9x512x512 ![] bcast_S_S2x2x9x512x512 : (⟨S_, .f32⟩ : BufTy).Contents (Elt F) → (⟨S2x2x9x512x512, .f32⟩ : BufTy).Contents (Elt F)),
    TRef.ternary (TRef.of (T := ⟨S2x2x9x512x512, .i1⟩) main_v72) (TRef.of (T := ⟨S2x2x9x512x512, .f32⟩) main_v59) (TRef.of (T := ⟨S2x2x9x512x512, .f32⟩) main_v73) (TRef.of (T := ⟨S2x2x9x512x512, .f32⟩) main_v74) select ]

/-- The weights that pick the centre candidate. -/
abbrev centre : List (HloOp τ sig (Elt F)) :=
  [ nullary main_cst_14 (constant S_ .f32 0x00000000#32),
    unary main_cst_14 main_v75 (broadcastInDim S2x2x9x512x512 ![] bcast_S_S2x2x9x512x512 : (⟨S_, .f32⟩ : BufTy).Contents (Elt F) → (⟨S2x2x9x512x512, .f32⟩ : BufTy).Contents (Elt F)),
    nullary main_c (constantI S_ 32 4#32),
    unary main_c main_v76 (broadcastInDim S1 ![] bcast_S_S1 : (⟨S_, .i32⟩ : BufTy).Contents (Elt F) → (⟨S1, .i32⟩ : BufTy).Contents (Elt F)),
    nullary main_cst_15 (constant S_ .f32 0x3F800000#32),
    unary main_cst_15 main_v77 (broadcastInDim S2x2x512x512 ![] bcast_S_S2x2x512x512 : (⟨S_, .f32⟩ : BufTy).Contents (Elt F) → (⟨S2x2x512x512, .f32⟩ : BufTy).Contents (Elt F)),
    ternary main_v75 main_v76 main_v77 main_v78 ((fun x i u => Host.scatter scatter_S2x2x9x512x512_S1_S2x2x512x512_0123_2_2_0 (fun _ b => b) x i u) : (⟨S2x2x9x512x512, .f32⟩ : BufTy).Contents (Elt F) → (⟨S1, .i32⟩ : BufTy).Contents (Elt F) → (⟨S2x2x512x512, .f32⟩ : BufTy).Contents (Elt F) → (⟨S2x2x9x512x512, .f32⟩ : BufTy).Contents (Elt F)) ]

/-- The centre where the mask holds at no depth. -/
abbrev mend : List (HloOp τ sig (Elt F)) :=
  [ nullary main_cst_16 (constant S_ .f32 0x3F000000#32),
    unary main_cst_16 main_v79 (broadcastInDim S2x2x1x512x512 ![] bcast_S_S2x2x1x512x512 : (⟨S_, .f32⟩ : BufTy).Contents (Elt F) → (⟨S2x2x1x512x512, .f32⟩ : BufTy).Contents (Elt F)),
    binary main_arg3 main_v79 main_v80 (cmpf .ogt : (⟨S2x2x1x512x512, .f32⟩ : BufTy).Contents (Elt F) → (⟨S2x2x1x512x512, .f32⟩ : BufTy).Contents (Elt F) → (⟨S2x2x1x512x512, .i1⟩ : BufTy).Contents (Elt F)),
    unary main_v80 main_v81 (uitofp .f32 : (⟨S2x2x1x512x512, .i1⟩ : BufTy).Contents (Elt F) → (⟨S2x2x1x512x512, .f32⟩ : BufTy).Contents (Elt F)),
    nullary main_cst_17 (constant S_ .f32 0x00000000#32),
    unary main_cst_17 main_v82 (broadcastInDim S2x2x1x512x512 ![] bcast_S_S2x2x1x512x512 : (⟨S_, .f32⟩ : BufTy).Contents (Elt F) → (⟨S2x2x1x512x512, .f32⟩ : BufTy).Contents (Elt F)),
    binary main_arg2 main_v82 main_v83 (cmpf .ogt : (⟨S2x2x1x512x512, .f32⟩ : BufTy).Contents (Elt F) → (⟨S2x2x1x512x512, .f32⟩ : BufTy).Contents (Elt F) → (⟨S2x2x1x512x512, .i1⟩ : BufTy).Contents (Elt F)),
    unary main_v83 main_v84 (noti : (⟨S2x2x1x512x512, .i1⟩ : BufTy).Contents (Elt F) → (⟨S2x2x1x512x512, .i1⟩ : BufTy).Contents (Elt F)),
    unary main_v84 main_v85 (uitofp .f32 : (⟨S2x2x1x512x512, .i1⟩ : BufTy).Contents (Elt F) → (⟨S2x2x1x512x512, .f32⟩ : BufTy).Contents (Elt F)),
    binary main_v81 main_v85 main_v86 (mulf : (⟨S2x2x1x512x512, .f32⟩ : BufTy).Contents (Elt F) → (⟨S2x2x1x512x512, .f32⟩ : BufTy).Contents (Elt F) → (⟨S2x2x1x512x512, .f32⟩ : BufTy).Contents (Elt F)),
    nullary main_cst_18 (constant S_ .f32 0x00000000#32),
    unary main_cst_18 main_v87 (broadcastInDim S2x2x9x512x512 ![] bcast_S_S2x2x9x512x512 : (⟨S_, .f32⟩ : BufTy).Contents (Elt F) → (⟨S2x2x9x512x512, .f32⟩ : BufTy).Contents (Elt F)),
    binary main_v87 main_v74 main_v88 (mulf : (⟨S2x2x9x512x512, .f32⟩ : BufTy).Contents (Elt F) → (⟨S2x2x9x512x512, .f32⟩ : BufTy).Contents (Elt F) → (⟨S2x2x9x512x512, .f32⟩ : BufTy).Contents (Elt F)),
    nullary main_cst_19 (constant S_ .f32 0x3F800000#32),
    unary main_cst_19 main_v89 (broadcastInDim S2x2x1x512x512 ![] bcast_S_S2x2x1x512x512 : (⟨S_, .f32⟩ : BufTy).Contents (Elt F) → (⟨S2x2x1x512x512, .f32⟩ : BufTy).Contents (Elt F)),
    binary main_v89 main_v86 main_v90 (subf : (⟨S2x2x1x512x512, .f32⟩ : BufTy).Contents (Elt F) → (⟨S2x2x1x512x512, .f32⟩ : BufTy).Contents (Elt F) → (⟨S2x2x1x512x512, .f32⟩ : BufTy).Contents (Elt F)),
    unary main_v90 main_v91 (broadcastInDim S2x2x9x512x512 ![0, 1, 2, 3, 4] bcast_S2x2x1x512x512_S2x2x9x512x512_0_1_2_3_4 : (⟨S2x2x1x512x512, .f32⟩ : BufTy).Contents (Elt F) → (⟨S2x2x9x512x512, .f32⟩ : BufTy).Contents (Elt F)),
    binary main_v88 main_v91 main_v92 (addf : (⟨S2x2x9x512x512, .f32⟩ : BufTy).Contents (Elt F) → (⟨S2x2x9x512x512, .f32⟩ : BufTy).Contents (Elt F) → (⟨S2x2x9x512x512, .f32⟩ : BufTy).Contents (Elt F)),
    nullary main_cst_20 (constant S_ .f32 0x3F000000#32),
    unary main_cst_20 main_v93 (broadcastInDim S2x2x9x512x512 ![] bcast_S_S2x2x9x512x512 : (⟨S_, .f32⟩ : BufTy).Contents (Elt F) → (⟨S2x2x9x512x512, .f32⟩ : BufTy).Contents (Elt F)),
    binary main_v92 main_v93 main_v94 (cmpf .ogt : (⟨S2x2x9x512x512, .f32⟩ : BufTy).Contents (Elt F) → (⟨S2x2x9x512x512, .f32⟩ : BufTy).Contents (Elt F) → (⟨S2x2x9x512x512, .i1⟩ : BufTy).Contents (Elt F)),
    TRef.ternary (TRef.of (T := ⟨S2x2x9x512x512, .i1⟩) main_v94) (TRef.of (T := ⟨S2x2x9x512x512, .f32⟩) main_v74) (TRef.of (T := ⟨S2x2x9x512x512, .f32⟩) main_v78) (TRef.of (T := ⟨S2x2x9x512x512, .f32⟩) main_v95) select ]

/-- The constant one. -/
abbrev one : List (HloOp τ sig (Elt F)) :=
  [ nullary main_cst_21 (constant S_ .f32 0x3F800000#32) ]

/-- The weights times the stacked planes. -/
abbrev xyz : List (HloOp τ sig (Elt F)) :=
  [ unary main_cst_21 main_v96 (broadcastInDim S2x2x9x512x512 ![] bcast_S_S2x2x9x512x512 : (⟨S_, .f32⟩ : BufTy).Contents (Elt F) → (⟨S2x2x9x512x512, .f32⟩ : BufTy).Contents (Elt F)),
    binary main_v96 main_v95 main_v97 (mulf : (⟨S2x2x9x512x512, .f32⟩ : BufTy).Contents (Elt F) → (⟨S2x2x9x512x512, .f32⟩ : BufTy).Contents (Elt F) → (⟨S2x2x9x512x512, .f32⟩ : BufTy).Contents (Elt F)),
    reshape main_v97 main_v98 (rfl : (.f32 : EltTy) = .f32) shapeCasts_S2x2x9x512x512_S2x2x3x3x1x512x512,
    reshape main_v0 main_v99 (rfl : (.f32 : EltTy) = .f32) shapeCasts_S2x2x3x512x512_S2x2x1x1x3x512x512,
    unary main_v98 main_v100 (broadcastInDim S2x2x3x3x3x512x512 ![0, 1, 2, 3, 4, 5, 6] bcast_S2x2x3x3x1x512x512_S2x2x3x3x3x512x512_0_1_2_3_4_5_6 : (⟨S2x2x3x3x1x512x512, .f32⟩ : BufTy).Contents (Elt F) → (⟨S2x2x3x3x3x512x512, .f32⟩ : BufTy).Contents (Elt F)),
    unary main_v99 main_v101 (broadcastInDim S2x2x3x3x3x512x512 ![0, 1, 2, 3, 4, 5, 6] bcast_S2x2x1x1x3x512x512_S2x2x3x3x3x512x512_0_1_2_3_4_5_6 : (⟨S2x2x1x1x3x512x512, .f32⟩ : BufTy).Contents (Elt F) → (⟨S2x2x3x3x3x512x512, .f32⟩ : BufTy).Contents (Elt F)),
    binary main_v100 main_v101 main_v102 (mulf : (⟨S2x2x3x3x3x512x512, .f32⟩ : BufTy).Contents (Elt F) → (⟨S2x2x3x3x3x512x512, .f32⟩ : BufTy).Contents (Elt F) → (⟨S2x2x3x3x3x512x512, .f32⟩ : BufTy).Contents (Elt F)) ]

/-- The weights for the mask: the centre where not valid. -/
abbrev again : List (HloOp τ sig (Elt F)) :=
  [ nullary main_cst_22 (constant S_ .f32 0x00000000#32),
    unary main_cst_22 main_v103 (broadcastInDim S2x2x9x512x512 ![] bcast_S_S2x2x9x512x512 : (⟨S_, .f32⟩ : BufTy).Contents (Elt F) → (⟨S2x2x9x512x512, .f32⟩ : BufTy).Contents (Elt F)),
    binary main_v103 main_v95 main_v104 (mulf : (⟨S2x2x9x512x512, .f32⟩ : BufTy).Contents (Elt F) → (⟨S2x2x9x512x512, .f32⟩ : BufTy).Contents (Elt F) → (⟨S2x2x9x512x512, .f32⟩ : BufTy).Contents (Elt F)),
    unary main_v66 main_v105 (broadcastInDim S2x2x9x512x512 ![0, 1, 2, 3, 4] bcast_S2x2x1x512x512_S2x2x9x512x512_0_1_2_3_4 : (⟨S2x2x1x512x512, .f32⟩ : BufTy).Contents (Elt F) → (⟨S2x2x9x512x512, .f32⟩ : BufTy).Contents (Elt F)),
    binary main_v104 main_v105 main_v106 (addf : (⟨S2x2x9x512x512, .f32⟩ : BufTy).Contents (Elt F) → (⟨S2x2x9x512x512, .f32⟩ : BufTy).Contents (Elt F) → (⟨S2x2x9x512x512, .f32⟩ : BufTy).Contents (Elt F)),
    nullary main_cst_23 (constant S_ .f32 0x3F000000#32),
    unary main_cst_23 main_v107 (broadcastInDim S2x2x9x512x512 ![] bcast_S_S2x2x9x512x512 : (⟨S_, .f32⟩ : BufTy).Contents (Elt F) → (⟨S2x2x9x512x512, .f32⟩ : BufTy).Contents (Elt F)),
    binary main_v106 main_v107 main_v108 (cmpf .ogt : (⟨S2x2x9x512x512, .f32⟩ : BufTy).Contents (Elt F) → (⟨S2x2x9x512x512, .f32⟩ : BufTy).Contents (Elt F) → (⟨S2x2x9x512x512, .i1⟩ : BufTy).Contents (Elt F)),
    TRef.ternary (TRef.of (T := ⟨S2x2x9x512x512, .i1⟩) main_v108) (TRef.of (T := ⟨S2x2x9x512x512, .f32⟩) main_v95) (TRef.of (T := ⟨S2x2x9x512x512, .f32⟩) main_v78) (TRef.of (T := ⟨S2x2x9x512x512, .f32⟩) main_v109) select ]

/-- The mask channel, joined under the three point channels. -/
abbrev join : List (HloOp τ sig (Elt F)) :=
  [ nullary main_cst_24 (constant S_ .f32 0x3F800000#32),
    unary main_cst_24 main_v110 (broadcastInDim S2x2x9x512x512 ![] bcast_S_S2x2x9x512x512 : (⟨S_, .f32⟩ : BufTy).Contents (Elt F) → (⟨S2x2x9x512x512, .f32⟩ : BufTy).Contents (Elt F)),
    binary main_v110 main_v109 main_v111 (mulf : (⟨S2x2x9x512x512, .f32⟩ : BufTy).Contents (Elt F) → (⟨S2x2x9x512x512, .f32⟩ : BufTy).Contents (Elt F) → (⟨S2x2x9x512x512, .f32⟩ : BufTy).Contents (Elt F)),
    unary main_arg3 main_v112 (broadcastInDim S2x2x9x512x512 ![0, 1, 2, 3, 4] bcast_S2x2x1x512x512_S2x2x9x512x512_0_1_2_3_4 : (⟨S2x2x1x512x512, .f32⟩ : BufTy).Contents (Elt F) → (⟨S2x2x9x512x512, .f32⟩ : BufTy).Contents (Elt F)),
    binary main_v111 main_v112 main_v113 (mulf : (⟨S2x2x9x512x512, .f32⟩ : BufTy).Contents (Elt F) → (⟨S2x2x9x512x512, .f32⟩ : BufTy).Contents (Elt F) → (⟨S2x2x9x512x512, .f32⟩ : BufTy).Contents (Elt F)),
    reshape main_v113 main_v114 (rfl : (.f32 : EltTy) = .f32) shapeCasts_S2x2x9x512x512_S2x2x3x3x1x512x512,
    binary main_v102 main_v114 main_v115 ((fun a b => concatenate S2x2x3x3x4x512x512 4 [⟨S2x2x3x3x3x512x512, a⟩, ⟨S2x2x3x3x1x512x512, b⟩] concatenates_S2x2x3x3x3x512x512_S2x2x3x3x1x512x512_S2x2x3x3x4x512x512_d4) : (⟨S2x2x3x3x3x512x512, .f32⟩ : BufTy).Contents (Elt F) → (⟨S2x2x3x3x1x512x512, .f32⟩ : BufTy).Contents (Elt F) → (⟨S2x2x3x3x4x512x512, .f32⟩ : BufTy).Contents (Elt F)) ]

/-- The stretches of the reference's window 0. -/
def window0 : List (HloOp τ sig (Elt F)) :=
  points ++ (dist0 ++ (dist1 ++ (dist2 ++ (dist3 ++ (dist4 ++ (dist5 ++ (dist6 ++ (dist7 ++ (dist8 ++ (stackA))))))))))

/-- The stretches of the reference's window 1. -/
def window1 : List (HloOp τ sig (Elt F)) :=
  stackB ++ (pick ++ (valid ++ (keep ++ (centre ++ (mend ++ (one))))))

/-- The stretches of the reference's window 2. -/
def window2 : List (HloOp τ sig (Elt F)) :=
  xyz ++ (again ++ (join))

/-- The whole of `main`. -/
abbrev ops : List (HloOp τ sig (Elt F)) := window0 ++ (window1 ++ window2)

set_option maxRecDepth 8192 in
set_option maxHeartbeats 4000000 in
/-- Window 0 runs its stretches in order. -/
theorem window0_eq (c : Dev nD) : main_part0 (F := F) c = seq window0 := rfl

set_option maxRecDepth 8192 in
set_option maxHeartbeats 4000000 in
/-- Window 1 runs its stretches in order. -/
theorem window1_eq (c : Dev nD) : main_part1 (F := F) c = seq window1 := rfl

set_option maxRecDepth 8192 in
set_option maxHeartbeats 4000000 in
/-- Window 2 runs its stretches in order. -/
theorem window2_eq (c : Dev nD) : main_part2 (F := F) c = seq window2 := rfl

set_option maxRecDepth 8192 in
/-- `main` runs the three windows in order. -/
theorem main_eq (c : Dev nD) : main (F := F) c = seq ops := by
  simp only [ops, seq_append, ← window0_eq c, ← window1_eq c, ← window2_eq c]
  rfl

/-- The buffers `points` writes. -/
abbrev pointsW : List (Ref sig .tc) := [main_v0, main_v1, main_v2, main_v3, main_cst, main_v4, main_v5, main_v6, main_v7, main_v8, main_v9]

set_option maxRecDepth 8192 in
theorem points_writes : (points : List (HloOp τ sig (Elt F))).map HloOp.writes = pointsW.map (fun r => {Proc.devRef .tc r}) := rfl

/-- The buffers `dist0` writes. -/
abbrev dist0W : List (Ref sig .tc) := [main_call0_v0, main_call0_v1, main_call0_v2, main_call0_v3, main_call0_v4, main_v10, main_v11, main_v12, main_cst_0, main_v13]

set_option maxRecDepth 8192 in
theorem dist0_writes : (dist0 : List (HloOp τ sig (Elt F))).map HloOp.writes = dist0W.map (fun r => {Proc.devRef .tc r}) := rfl

/-- The buffers `dist1` writes. -/
abbrev dist1W : List (Ref sig .tc) := [main_call1_v0, main_call1_v1, main_call1_v2, main_call1_v3, main_call1_v4, main_v14, main_v15, main_v16, main_cst_1, main_v17]

set_option maxRecDepth 8192 in
theorem dist1_writes : (dist1 : List (HloOp τ sig (Elt F))).map HloOp.writes = dist1W.map (fun r => {Proc.devRef .tc r}) := rfl

/-- The buffers `dist2` writes. -/
abbrev dist2W : List (Ref sig .tc) := [main_call2_v0, main_call2_v1, main_call2_v2, main_call2_v3, main_call2_v4, main_v18, main_v19, main_v20, main_cst_2, main_v21]

set_option maxRecDepth 8192 in
theorem dist2_writes : (dist2 : List (HloOp τ sig (Elt F))).map HloOp.writes = dist2W.map (fun r => {Proc.devRef .tc r}) := rfl

/-- The buffers `dist3` writes. -/
abbrev dist3W : List (Ref sig .tc) := [main_call3_v0, main_call3_v1, main_call3_v2, main_call3_v3, main_call3_v4, main_v22, main_v23, main_v24, main_cst_3, main_v25]

set_option maxRecDepth 8192 in
theorem dist3_writes : (dist3 : List (HloOp τ sig (Elt F))).map HloOp.writes = dist3W.map (fun r => {Proc.devRef .tc r}) := rfl

/-- The buffers `dist4` writes. -/
abbrev dist4W : List (Ref sig .tc) := [main_call4_v0, main_call4_v1, main_call4_v2, main_call4_v3, main_call4_v4, main_v26, main_v27, main_v28, main_cst_4, main_v29]

set_option maxRecDepth 8192 in
theorem dist4_writes : (dist4 : List (HloOp τ sig (Elt F))).map HloOp.writes = dist4W.map (fun r => {Proc.devRef .tc r}) := rfl

/-- The buffers `dist5` writes. -/
abbrev dist5W : List (Ref sig .tc) := [main_call5_v0, main_call5_v1, main_call5_v2, main_call5_v3, main_call5_v4, main_v30, main_v31, main_v32, main_cst_5, main_v33]

set_option maxRecDepth 8192 in
theorem dist5_writes : (dist5 : List (HloOp τ sig (Elt F))).map HloOp.writes = dist5W.map (fun r => {Proc.devRef .tc r}) := rfl

/-- The buffers `dist6` writes. -/
abbrev dist6W : List (Ref sig .tc) := [main_call6_v0, main_call6_v1, main_call6_v2, main_call6_v3, main_call6_v4, main_v34, main_v35, main_v36, main_cst_6, main_v37]

set_option maxRecDepth 8192 in
theorem dist6_writes : (dist6 : List (HloOp τ sig (Elt F))).map HloOp.writes = dist6W.map (fun r => {Proc.devRef .tc r}) := rfl

/-- The buffers `dist7` writes. -/
abbrev dist7W : List (Ref sig .tc) := [main_call7_v0, main_call7_v1, main_call7_v2, main_call7_v3, main_call7_v4, main_v38, main_v39, main_v40, main_cst_7, main_v41]

set_option maxRecDepth 8192 in
theorem dist7_writes : (dist7 : List (HloOp τ sig (Elt F))).map HloOp.writes = dist7W.map (fun r => {Proc.devRef .tc r}) := rfl

/-- The buffers `dist8` writes. -/
abbrev dist8W : List (Ref sig .tc) := [main_call8_v0, main_call8_v1, main_call8_v2, main_call8_v3, main_call8_v4, main_v42, main_v43, main_v44, main_cst_8, main_v45]

set_option maxRecDepth 8192 in
theorem dist8_writes : (dist8 : List (HloOp τ sig (Elt F))).map HloOp.writes = dist8W.map (fun r => {Proc.devRef .tc r}) := rfl

/-- The buffers `stackA` writes. -/
abbrev stackAW : List (Ref sig .tc) := [main_v46, main_v47, main_v48, main_v49]

set_option maxRecDepth 8192 in
theorem stackA_writes : (stackA : List (HloOp τ sig (Elt F))).map HloOp.writes = stackAW.map (fun r => {Proc.devRef .tc r}) := rfl

/-- The buffers `stackB` writes. -/
abbrev stackBW : List (Ref sig .tc) := [main_v50, main_v51, main_v52, main_v53, main_v54, main_v55, main_v56]

set_option maxRecDepth 8192 in
theorem stackB_writes : (stackB : List (HloOp τ sig (Elt F))).map HloOp.writes = stackBW.map (fun r => {Proc.devRef .tc r}) := rfl

/-- The buffers `pick` writes. -/
abbrev pickW : List (Ref sig .tc) := [main_call9_v0, main_call9_cst, main_call9_c, main_call9_v1_0, main_v57, main_call10_v0, main_call10_v1, main_call10_v2, main_call10_v3, main_call10_v4, main_v58, main_v59]

set_option maxRecDepth 8192 in
theorem pick_writes : (pick : List (HloOp τ sig (Elt F))).map HloOp.writes = pickW.map (fun r => {Proc.devRef .tc r}) := rfl

/-- The buffers `valid` writes. -/
abbrev validW : List (Ref sig .tc) := [main_cst_9, main_v60, main_v61, main_v62, main_cst_10, main_v63, main_v64, main_v65, main_v66]

set_option maxRecDepth 8192 in
theorem valid_writes : (valid : List (HloOp τ sig (Elt F))).map HloOp.writes = validW.map (fun r => {Proc.devRef .tc r}) := rfl

/-- The buffers `keep` writes. -/
abbrev keepW : List (Ref sig .tc) := [main_cst_11, main_v67, main_v68, main_v69, main_v70, main_cst_12, main_v71, main_v72, main_cst_13, main_v73, main_v74]

set_option maxRecDepth 8192 in
theorem keep_writes : (keep : List (HloOp τ sig (Elt F))).map HloOp.writes = keepW.map (fun r => {Proc.devRef .tc r}) := rfl

/-- The buffers `centre` writes. -/
abbrev centreW : List (Ref sig .tc) := [main_cst_14, main_v75, main_c, main_v76, main_cst_15, main_v77, main_v78]

set_option maxRecDepth 8192 in
theorem centre_writes : (centre : List (HloOp τ sig (Elt F))).map HloOp.writes = centreW.map (fun r => {Proc.devRef .tc r}) := rfl

/-- The buffers `mend` writes. -/
abbrev mendW : List (Ref sig .tc) := [main_cst_16, main_v79, main_v80, main_v81, main_cst_17, main_v82, main_v83, main_v84, main_v85, main_v86, main_cst_18, main_v87, main_v88, main_cst_19, main_v89, main_v90, main_v91, main_v92, main_cst_20, main_v93, main_v94, main_v95]

set_option maxRecDepth 8192 in
theorem mend_writes : (mend : List (HloOp τ sig (Elt F))).map HloOp.writes = mendW.map (fun r => {Proc.devRef .tc r}) := rfl

/-- The buffers `one` writes. -/
abbrev oneW : List (Ref sig .tc) := [main_cst_21]

set_option maxRecDepth 8192 in
theorem one_writes : (one : List (HloOp τ sig (Elt F))).map HloOp.writes = oneW.map (fun r => {Proc.devRef .tc r}) := rfl

/-- The buffers `xyz` writes. -/
abbrev xyzW : List (Ref sig .tc) := [main_v96, main_v97, main_v98, main_v99, main_v100, main_v101, main_v102]

set_option maxRecDepth 8192 in
theorem xyz_writes : (xyz : List (HloOp τ sig (Elt F))).map HloOp.writes = xyzW.map (fun r => {Proc.devRef .tc r}) := rfl

/-- The buffers `again` writes. -/
abbrev againW : List (Ref sig .tc) := [main_cst_22, main_v103, main_v104, main_v105, main_v106, main_cst_23, main_v107, main_v108, main_v109]

set_option maxRecDepth 8192 in
theorem again_writes : (again : List (HloOp τ sig (Elt F))).map HloOp.writes = againW.map (fun r => {Proc.devRef .tc r}) := rfl

/-- The buffers `join` writes. -/
abbrev joinW : List (Ref sig .tc) := [main_cst_24, main_v110, main_v111, main_v112, main_v113, main_v114, main_v115]

set_option maxRecDepth 8192 in
theorem join_writes : (join : List (HloOp τ sig (Elt F))).map HloOp.writes = joinW.map (fun r => {Proc.devRef .tc r}) := rfl

end Cert.ReferenceIdeal.Steps

end
-- ==== Proof.RefRun.lean ====
/-
  The reference program run: it ends, every buffer holds what its operations compute from the launch contents, the arguments are untouched.
-/
module

public import proofs.«01_k».proof.Proof.RefOps

@[expose] public section

set_option Elab.async false

noncomputable section

namespace Cert.ReferenceIdeal.Steps

open Cert.ReferenceIdeal Cert.ReferenceIdeal.Gen Idealize.ShloMosaic Idealize.ShloMosaic.TcCoe Idealize.SL.Sem Idealize.ShloMosaic.StableHlo

variable {F : FTy → Type} [FloatOps F]

/-- All the buffers the reference writes. -/
abbrev opsW : List (Ref sig .tc) :=
  (pointsW ++ (dist0W ++ (dist1W ++ (dist2W ++ (dist3W ++ (dist4W ++ (dist5W ++ (dist6W ++ (dist7W ++ (dist8W ++ stackAW))))))))))
    ++ ((stackBW ++ (pickW ++ (validW ++ (keepW ++ (centreW ++ (mendW ++ oneW)))))) ++ (xyzW ++ (againW ++ joinW)))

/-- Every operation writes one of them. -/
theorem ops_writes : (ops : List (HloOp τ sig (Elt F))).map HloOp.writes = opsW.map (fun r => {Proc.devRef .tc r}) := by
  unfold ops window0 window1 window2 opsW
  simp only [List.map_append]
  rw [points_writes, dist0_writes, dist1_writes, dist2_writes, dist3_writes, dist4_writes, dist5_writes, dist6_writes, dist7_writes,
    dist8_writes, stackA_writes, stackB_writes, pick_writes, valid_writes, keep_writes, centre_writes, mend_writes, one_writes,
    xyz_writes, again_writes, join_writes]

set_option maxRecDepth 8192 in
/-- A buffer no operation writes keeps its contents. -/
theorem ops_keep (V : Valuation τ sig (Elt F)) (r : Ref sig .tc) (h : r ∉ opsW) :
    after ops V (Proc.devRef .tc r) = V (Proc.devRef .tc r) :=
  after_of_writes_sub ops V (forall_writes_sub_of_map ops_writes) h

theorem scopedRefs_none : (Finset.univ.filter fun b : Ref sig .tc => b.isScoped) = ∅ := by decide

theorem scopedSems_none : (Finset.univ.filter fun sm : SemLoc sig => sm.isScoped .tc) = ∅ := by decide

set_option maxRecDepth 8192 in
set_option maxHeartbeats 2000000 in
/-- The operations touch only the TensorCore's buffers. -/
theorem ops_sub : (ops : List (HloOp τ sig (Elt F))).Forall fun op => op.bufs ⊆ tcRefs τ sig := by
  unfold ops window0 window1 window2
  simp only [List.forall_append]
  refine ⟨⟨?_, ?_, ?_, ?_, ?_, ?_, ?_, ?_, ?_, ?_, ?_⟩, ⟨?_, ?_, ?_, ?_, ?_, ?_, ?_⟩, ?_, ?_, ?_⟩ <;> simp

set_option maxRecDepth 8192 in
set_option maxHeartbeats 2000000 in
/-- The operations allocate nothing. -/
theorem ops_fresh : ∀ op ∈ (ops : List (HloOp τ sig (Elt F))), op.fresh = ∅ := by
  refine List.forall_iff_forall_mem.mp ?_
  unfold ops window0 window1 window2
  simp only [List.forall_append]
  refine ⟨⟨?_, ?_, ?_, ?_, ?_, ?_, ?_, ?_, ?_, ?_, ?_⟩, ⟨?_, ?_, ?_, ?_, ?_, ?_, ?_⟩, ?_, ?_, ?_⟩ <;>
    exact List.forall_iff_forall_mem.mpr fun op h => by
      (repeat (cases h with | head => rfl | tail _ h => ?_)); exact nomatch h

/-- The reference ends, each buffer at what the operations leave there. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v115) = after ops (launchContents m c) (Proc.devRef .tc main_v115)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c =>
    ⟨h c main_v115, (h c main_arg0).trans (ops_keep _ _ (by decide)), (h c main_arg1).trans (ops_keep _ _ (by decide)),
      (h c main_arg2).trans (ops_keep _ _ (by decide)), (h c main_arg3).trans (ops_keep _ _ (by decide)),
      (h c main_arg4).trans (ops_keep _ _ (by decide)), (h c main_arg5).trans (ops_keep _ _ (by decide)),
      (h c main_arg6).trans (ops_keep _ _ (by decide))⟩)
    (run_seq scopedRefs_none scopedSems_none defs main (fun _ => ops) main_eq (fun _ => ops_sub) m ρ fun _ => ops_fresh)

end Cert.ReferenceIdeal.Steps

end
-- ==== Proof.RefPoints.lean ====
/-
  The points the reference works with, read at an index: the three planes stacked, and the point each pixel of the panel stands for.
-/
module

public import proofs.«01_k».proof.Proof.RefOps
public import proofs.«01_k».proof.Proof.Spec
public import Idealize.ShloMosaic.Lib.Pipeline.Value

@[expose] public section

set_option Elab.async false

noncomputable section

namespace Cert.ReferenceIdeal.Steps

open Cert.ReferenceIdeal Cert.ReferenceIdeal.Gen Idealize.ShloMosaic Idealize.ShloMosaic.TcCoe Idealize.SL.Sem Idealize.ShloMosaic.StableHlo Cert.Spec

/-- Three planes stacked along the plane axis. -/
def stack3 (x y z : FVec Ideal S2x2x1x512x512 .f32) : FVec Ideal S2x2x3x512x512 .f32 :=
  concatenate S2x2x3x512x512 2 [⟨S2x2x1x512x512, x⟩, ⟨S2x2x1x512x512, y⟩, ⟨S2x2x1x512x512, z⟩]
    concatenates_S2x2x1x512x512_S2x2x1x512x512_S2x2x1x512x512_S2x2x3x512x512_d2

/-- The stack at a plane index is that plane. -/
theorem stack3_at (x y z : FVec Ideal S2x2x1x512x512 .f32) (b c : Fin 2) (e : Fin 3) (i j : Fin 512) :
    stack3 x y z (ix5 b c e i j) = (![x, y, z] e) (ix5 b c 0 i j) := by
  fin_cases e <;> pointwise [stack3]

/-- The point a panel pixel stands for, as the reference computes it. -/
def backOf (z : FVec Ideal S2x2x1x512x512 .f32) (p : FVec Ideal S2x2x2x512x512 .f32) (k : FVec Ideal S3x3 .f32) : FVec Ideal S2x2x3x512x512 .f32 :=
  mulf (transpose S2x2x3x512x512 [0, 1, 4, 2, 3]
      (Host.dotGeneral dot_S2x2x3x512x512_S3x3_S2x2x512x512x3_2_1_0134_0_n_n none
        (stack3 (extractStridedSlice S2x2x1x512x512 ![0, 0, 0, 0, 0] p slices_S2x2x2x512x512_S2x2x1x512x512_0_0_0_0_0)
          (extractStridedSlice S2x2x1x512x512 ![0, 0, 1, 0, 0] p slices_S2x2x2x512x512_S2x2x1x512x512_0_0_1_0_0)
          (broadcastInDim S2x2x1x512x512 ![] bcast_S_S2x2x1x512x512 (constant S_ .f32 0x3F800000#32))) k)
      transposes_S2x2x512x512x3_S2x2x3x512x512_0_1_4_2_3)
    (broadcastInDim S2x2x3x512x512 ![0, 1, 2, 3, 4] bcast_S2x2x1x512x512_S2x2x3x512x512_0_1_2_3_4 z)

/-- That point's coordinate `e` at a pixel: the camera's row times the panel's pixel, times the depth. -/
theorem backOf_at (z : FVec Ideal S2x2x1x512x512 .f32) (p : FVec Ideal S2x2x2x512x512 .f32) (k : FVec Ideal S3x3 .f32)
    (b c : Fin 2) (e : Fin 3) (i j : Fin 512) :
    backOf z p k (ix5 b c e i j)
      = ((k (ix2 e 0) * p (ix5 b c 0 i j) + k (ix2 e 1) * p (ix5 b c 1 i j)) + k (ix2 e 2)) * z (ix5 b c 0 i j) := by
  pointwise [backOf]
  rw [Fin.sum_univ_three, stack3_at, stack3_at, stack3_at]
  dsimp only [Matrix.cons_val]
  pointwise []
  rw [mul_comm (k (ix2 e 0)), mul_comm (k (ix2 e 1))]

set_option maxRecDepth 8192 in
set_option maxHeartbeats 2000000 in
/-- The stretch leaves the stacked planes in two buffers. -/
theorem points_v0 (V : Valuation τ sig (Elt Ideal)) : after points V (no_index (Proc.devRef .tc main_v0))
    = stack3 (V (Proc.devRef .tc main_arg0)) (V (Proc.devRef .tc main_arg1)) (V (Proc.devRef .tc main_arg2)) := by
  unfold points
  after_results_simp
  rfl

set_option maxRecDepth 8192 in
set_option maxHeartbeats 2000000 in
theorem points_v1 (V : Valuation τ sig (Elt Ideal)) : after points V (no_index (Proc.devRef .tc main_v1))
    = stack3 (V (Proc.devRef .tc main_arg0)) (V (Proc.devRef .tc main_arg1)) (V (Proc.devRef .tc main_arg2)) := by
  unfold points
  after_results_simp
  rfl

set_option maxRecDepth 8192 in
set_option maxHeartbeats 2000000 in
/-- And the panel's points in a third. -/
theorem points_v9 (V : Valuation τ sig (Elt Ideal)) : after points V (no_index (Proc.devRef .tc main_v9))
    = backOf (V (Proc.devRef .tc main_arg2)) (V (Proc.devRef .tc main_arg4)) (V (Proc.devRef .tc main_arg6)) := by
  unfold points
  after_results_simp
  rfl

end Cert.ReferenceIdeal.Steps

end
-- ==== Proof.RefDist.lean ====
/-
  The neighbours of the reference: the stacked planes moved cyclically by one place along rows and columns, and the squared distances from
  a pixel's nine neighbours to the pixel's panel point.
-/
module

public import proofs.«01_k».proof.Proof.RefOps
public import proofs.«01_k».proof.Proof.Spec
public import Idealize.ShloMosaic.Lib.Pipeline.Value

@[expose] public section

set_option Elab.async false
set_option maxRecDepth 16384

noncomputable section

namespace Cert.ReferenceIdeal.Steps

open Cert.ReferenceIdeal Cert.ReferenceIdeal.Gen Idealize.ShloMosaic Idealize.ShloMosaic.TcCoe Idealize.SL.Sem Idealize.ShloMosaic.StableHlo Cert.Spec

/-- Every row takes the next row's contents. -/
def rowsUp (X : FVec Ideal S2x2x3x512x512 .f32) : FVec Ideal S2x2x3x512x512 .f32 :=
  concatenate S2x2x3x512x512 3 [⟨S2x2x3x511x512, extractStridedSlice S2x2x3x511x512 ![0, 0, 0, 1, 0] X slices_S2x2x3x512x512_S2x2x3x511x512_0_0_0_1_0⟩,
    ⟨S2x2x3x1x512, extractStridedSlice S2x2x3x1x512 ![0, 0, 0, 0, 0] X slices_S2x2x3x512x512_S2x2x3x1x512_0_0_0_0_0⟩] concatenates_S2x2x3x511x512_S2x2x3x1x512_S2x2x3x512x512_d3

/-- Rows moved by nothing. -/
def rowsStay (X : FVec Ideal S2x2x3x512x512 .f32) : FVec Ideal S2x2x3x512x512 .f32 :=
  concatenate S2x2x3x512x512 3 [⟨S2x2x3x512x512, extractStridedSlice S2x2x3x512x512 ![0, 0, 0, 0, 0] X slices_S2x2x3x512x512_S2x2x3x512x512_0_0_0_0_0⟩,
    ⟨S2x2x3x0x512, extractStridedSlice S2x2x3x0x512 ![0, 0, 0, 0, 0] X slices_S2x2x3x512x512_S2x2x3x0x512_0_0_0_0_0⟩] concatenates_S2x2x3x512x512_S2x2x3x0x512_S2x2x3x512x512_d3

/-- Every row takes the previous row's contents. -/
def rowsDown (X : FVec Ideal S2x2x3x512x512 .f32) : FVec Ideal S2x2x3x512x512 .f32 :=
  concatenate S2x2x3x512x512 3 [⟨S2x2x3x1x512, extractStridedSlice S2x2x3x1x512 ![0, 0, 0, 511, 0] X slices_S2x2x3x512x512_S2x2x3x1x512_0_0_0_511_0⟩,
    ⟨S2x2x3x511x512, extractStridedSlice S2x2x3x511x512 ![0, 0, 0, 0, 0] X slices_S2x2x3x512x512_S2x2x3x511x512_0_0_0_0_0⟩] concatenates_S2x2x3x1x512_S2x2x3x511x512_S2x2x3x512x512_d3

/-- Every column takes the next column's contents. -/
def colsUp (X : FVec Ideal S2x2x3x512x512 .f32) : FVec Ideal S2x2x3x512x512 .f32 :=
  concatenate S2x2x3x512x512 4 [⟨S2x2x3x512x511, extractStridedSlice S2x2x3x512x511 ![0, 0, 0, 0, 1] X slices_S2x2x3x512x512_S2x2x3x512x511_0_0_0_0_1⟩,
    ⟨S2x2x3x512x1, extractStridedSlice S2x2x3x512x1 ![0, 0, 0, 0, 0] X slices_S2x2x3x512x512_S2x2x3x512x1_0_0_0_0_0⟩] concatenates_S2x2x3x512x511_S2x2x3x512x1_S2x2x3x512x512_d4

/-- Columns moved by nothing. -/
def colsStay (X : FVec Ideal S2x2x3x512x512 .f32) : FVec Ideal S2x2x3x512x512 .f32 :=
  concatenate S2x2x3x512x512 4 [⟨S2x2x3x512x512, extractStridedSlice S2x2x3x512x512 ![0, 0, 0, 0, 0] X slices_S2x2x3x512x512_S2x2x3x512x512_0_0_0_0_0⟩,
    ⟨S2x2x3x512x0, extractStridedSlice S2x2x3x512x0 ![0, 0, 0, 0, 0] X slices_S2x2x3x512x512_S2x2x3x512x0_0_0_0_0_0⟩] concatenates_S2x2x3x512x512_S2x2x3x512x0_S2x2x3x512x512_d4

/-- Every column takes the previous column's contents. -/
def colsDown (X : FVec Ideal S2x2x3x512x512 .f32) : FVec Ideal S2x2x3x512x512 .f32 :=
  concatenate S2x2x3x512x512 4 [⟨S2x2x3x512x1, extractStridedSlice S2x2x3x512x1 ![0, 0, 0, 0, 511] X slices_S2x2x3x512x512_S2x2x3x512x1_0_0_0_0_511⟩,
    ⟨S2x2x3x512x511, extractStridedSlice S2x2x3x512x511 ![0, 0, 0, 0, 0] X slices_S2x2x3x512x512_S2x2x3x512x511_0_0_0_0_0⟩] concatenates_S2x2x3x512x1_S2x2x3x512x511_S2x2x3x512x512_d4

/-- Row moves read at an index. -/
theorem rows_at (X : FVec Ideal S2x2x3x512x512 .f32) (b c : Fin 2) (e : Fin 3) (i j : Fin 512) :
    rowsUp X (ix5 b c e i j) = X (ix5 b c e (nb 0 i) j) ∧ rowsStay X (ix5 b c e i j) = X (ix5 b c e (nb 1 i) j)
      ∧ rowsDown X (ix5 b c e i j) = X (ix5 b c e (nb 2 i) j) := by
  refine ⟨?_, ?_, ?_⟩ <;> pointwise [rowsUp, rowsStay, rowsDown, nb] <;> (try split) <;> exact congrArg (fun q : Fin 512 => X (ix5 b c e q j)) (Fin.ext (by dsimp only; omega))

/-- Column moves read at an index. -/
theorem cols_at (X : FVec Ideal S2x2x3x512x512 .f32) (b c : Fin 2) (e : Fin 3) (i j : Fin 512) :
    colsUp X (ix5 b c e i j) = X (ix5 b c e i (nb 0 j)) ∧ colsStay X (ix5 b c e i j) = X (ix5 b c e i (nb 1 j))
      ∧ colsDown X (ix5 b c e i j) = X (ix5 b c e i (nb 2 j)) := by
  refine ⟨?_, ?_, ?_⟩ <;> pointwise [colsUp, colsStay, colsDown, nb] <;> (try split) <;> exact congrArg (fun q : Fin 512 => X (ix5 b c e i q)) (Fin.ext (by dsimp only; omega))

/-- The squared distance between two stacks of planes, plane by plane summed. -/
def distOf (P Q : FVec Ideal S2x2x3x512x512 .f32) : FVec Ideal S2x2x512x512 .f32 :=
  Host.reduceAdd (mulf (subf P Q) (subf P Q)) (constant S_ .f32 0x00000000#32) reducesTo_S2x2x3x512x512_S2x2x512x512_d2 h_S_

/-- Read at an index. -/
theorem distOf_at (P Q : FVec Ideal S2x2x3x512x512 .f32) (b c : Fin 2) (i j : Fin 512) :
    distOf P Q (ix4 b c i j)
      = Spec.dist3 (P (ix5 b c 0 i j)) (P (ix5 b c 1 i j)) (P (ix5 b c 2 i j)) (Q (ix5 b c 0 i j)) (Q (ix5 b c 1 i j)) (Q (ix5 b c 2 i j)) := by
  pointwise [distOf]
  exact Fin.sum_univ_three _

set_option maxHeartbeats 2000000 in
/-- Candidate 0's distances. -/
theorem dist0_out (V : Valuation τ sig (Elt Ideal)) : after dist0 V (no_index (Proc.devRef .tc main_v13))
    = distOf (colsUp (rowsUp (V (Proc.devRef .tc main_v1)))) (V (Proc.devRef .tc main_v9)) := by
  unfold dist0
  simp only [TRef.binary, TRef.unary, TRef.toBuf, TRef.ofBuf, cast_eq]
  after_results_simp
  rfl

set_option maxHeartbeats 2000000 in
/-- Candidate 1's distances. -/
theorem dist1_out (V : Valuation τ sig (Elt Ideal)) : after dist1 V (no_index (Proc.devRef .tc main_v17))
    = distOf (colsStay (rowsUp (V (Proc.devRef .tc main_v1)))) (V (Proc.devRef .tc main_v9)) := by
  unfold dist1
  simp only [TRef.binary, TRef.unary, TRef.toBuf, TRef.ofBuf, cast_eq]
  after_results_simp
  rfl

set_option maxHeartbeats 2000000 in
/-- Candidate 2's distances. -/
theorem dist2_out (V : Valuation τ sig (Elt Ideal)) : after dist2 V (no_index (Proc.devRef .tc main_v21))
    = distOf (colsDown (rowsUp (V (Proc.devRef .tc main_v1)))) (V (Proc.devRef .tc main_v9)) := by
  unfold dist2
  simp only [TRef.binary, TRef.unary, TRef.toBuf, TRef.ofBuf, cast_eq]
  after_results_simp
  rfl

set_option maxHeartbeats 2000000 in
/-- Candidate 3's distances. -/
theorem dist3_out (V : Valuation τ sig (Elt Ideal)) : after dist3 V (no_index (Proc.devRef .tc main_v25))
    = distOf (colsUp (rowsStay (V (Proc.devRef .tc main_v1)))) (V (Proc.devRef .tc main_v9)) := by
  unfold dist3
  simp only [TRef.binary, TRef.unary, TRef.toBuf, TRef.ofBuf, cast_eq]
  after_results_simp
  rfl

set_option maxHeartbeats 2000000 in
/-- Candidate 4's distances. -/
theorem dist4_out (V : Valuation τ sig (Elt Ideal)) : after dist4 V (no_index (Proc.devRef .tc main_v29))
    = distOf (colsStay (rowsStay (V (Proc.devRef .tc main_v1)))) (V (Proc.devRef .tc main_v9)) := by
  unfold dist4
  simp only [TRef.binary, TRef.unary, TRef.toBuf, TRef.ofBuf, cast_eq]
  after_results_simp
  rfl

set_option maxHeartbeats 2000000 in
/-- Candidate 5's distances. -/
theorem dist5_out (V : Valuation τ sig (Elt Ideal)) : after dist5 V (no_index (Proc.devRef .tc main_v33))
    = distOf (colsDown (rowsStay (V (Proc.devRef .tc main_v1)))) (V (Proc.devRef .tc main_v9)) := by
  unfold dist5
  simp only [TRef.binary, TRef.unary, TRef.toBuf, TRef.ofBuf, cast_eq]
  after_results_simp
  rfl

set_option maxHeartbeats 2000000 in
/-- Candidate 6's distances. -/
theorem dist6_out (V : Valuation τ sig (Elt Ideal)) : after dist6 V (no_index (Proc.devRef .tc main_v37))
    = distOf (colsUp (rowsDown (V (Proc.devRef .tc main_v1)))) (V (Proc.devRef .tc main_v9)) := by
  unfold dist6
  simp only [TRef.binary, TRef.unary, TRef.toBuf, TRef.ofBuf, cast_eq]
  after_results_simp
  rfl

set_option maxHeartbeats 2000000 in
/-- Candidate 7's distances. -/
theorem dist7_out (V : Valuation τ sig (Elt Ideal)) : after dist7 V (no_index (Proc.devRef .tc main_v41))
    = distOf (colsStay (rowsDown (V (Proc.devRef .tc main_v1)))) (V (Proc.devRef .tc main_v9)) := by
  unfold dist7
  simp only [TRef.binary, TRef.unary, TRef.toBuf, TRef.ofBuf, cast_eq]
  after_results_simp
  rfl

set_option maxHeartbeats 2000000 in
/-- Candidate 8's distances. -/
theorem dist8_out (V : Valuation τ sig (Elt Ideal)) : after dist8 V (no_index (Proc.devRef .tc main_v45))
    = distOf (colsDown (rowsDown (V (Proc.devRef .tc main_v1)))) (V (Proc.devRef .tc main_v9)) := by
  unfold dist8
  simp only [TRef.binary, TRef.unary, TRef.toBuf, TRef.ofBuf, cast_eq]
  after_results_simp
  rfl

end Cert.ReferenceIdeal.Steps

end
-- ==== Proof.RefArg.lean ====
/-
  The reference's search for the greatest of nine values along the candidate axis, read at an index: it is the first candidate
  with the least value of the opposite sign.
-/
module

public import proofs.«01_k».proof.Proof.RefOps
public import proofs.«01_k».proof.Proof.Spec
public import Idealize.ShloMosaic.Lib.Pipeline.Value

@[expose] public section

set_option Elab.async false
set_option maxRecDepth 16384

noncomputable section

namespace Cert.ReferenceIdeal.Steps

open Cert.ReferenceIdeal Cert.ReferenceIdeal.Gen Idealize.ShloMosaic Idealize.ShloMosaic.TcCoe Idealize.SL.Sem Idealize.ShloMosaic.StableHlo Cert.Spec

/-- Dropping the candidate axis keeps the other four coordinates. -/
theorem drop_at (b c : Fin 2) (s : Fin 9) (i j : Fin 512) :
    reducesTo_S2x2x9x512x512_S2x2x512x512_d2.drop (ix5 b c s i j) = ix4 b c i j := by
  funext a
  apply Fin.ext
  fin_cases a <;> rfl

/-- The positions that drop to one pixel are its nine candidates, in order. -/
theorem places_at (b c : Fin 2) (i j : Fin 512) :
    ((List.finRange S2x2x9x512x512.numel).filter fun n => reducesTo_S2x2x9x512x512_S2x2x512x512_d2.drop (S2x2x9x512x512.rowMajor.symm n) = ix4 b c i j)
      = (List.finRange 9).map fun s => S2x2x9x512x512.rowMajor (ix5 b c s i j) := by
  have hl := (List.pairwise_lt_finRange S2x2x9x512x512.numel).filter
    fun n => decide (reducesTo_S2x2x9x512x512_S2x2x512x512_d2.drop (S2x2x9x512x512.rowMajor.symm n) = ix4 b c i j)
  have hr : ((List.finRange 9).map fun s => S2x2x9x512x512.rowMajor (ix5 b c s i j)).Pairwise (· < ·) := by
    rw [List.pairwise_map]
    refine (List.pairwise_lt_finRange 9).imp fun {s s'} hs => ?_
    show (_ : Fin _).val < (_ : Fin _).val
    rw [rowMajor_val5 _ 4718592 2359296 262144 512 rfl rfl rfl rfl, rowMajor_val5 _ 4718592 2359296 262144 512 rfl rfl rfl rfl]
    show b.val * 4718592 + c.val * 2359296 + s.val * 262144 + i.val * 512 + j.val < b.val * 4718592 + c.val * 2359296 + s'.val * 262144 + i.val * 512 + j.val
    have : s.val < s'.val := hs
    omega
  refine List.Perm.eq_of_pairwise (le := (· < ·)) (fun x y _ _ h h' => absurd h (lt_asymm h')) hl hr ?_
  refine (List.perm_ext_iff_of_nodup (hl.imp ne_of_lt) (hr.imp ne_of_lt)).mpr fun n => ?_
  simp only [List.mem_filter, List.mem_finRange, true_and, decide_eq_true_eq, List.mem_map]
  constructor
  · intro h
    obtain ⟨p, rfl⟩ := S2x2x9x512x512.rowMajor.surjective n
    rw [Equiv.symm_apply_apply] at h
    have hp : p = ix5 (p 0) (p 1) (p 2) (p 3) (p 4) := by funext a; fin_cases a <;> rfl
    rw [hp] at h ⊢
    have h := (drop_at (p 0) (p 1) (p 2) (p 3) (p 4)).symm.trans h
    have h0 := congrFun h 0
    have h1 := congrFun h 1
    have h2 := congrFun h 2
    have h3 := congrFun h 3
    exact ⟨p 2, by rw [← show p 0 = b from h0, ← show p 1 = c from h1, ← show p 3 = i from h2, ← show p 4 = j from h3]; rfl⟩
  · rintro ⟨s, rfl⟩
    rw [Equiv.symm_apply_apply]
    exact drop_at b c s i j

/-- One step of the search: a candidate `n` beats an earlier one `p` only when its value is strictly less. -/
theorem step_at (a b : EReal) (p : BitVec 32) (n : ℕ) (hp : p.toNat < n) (hn : n < 9) :
    reducer_argmax_f32_i32 (F := Ideal) (-a, p) (-b, BitVec.ofNat 32 n)
      = if b < a then (-b, BitVec.ofNat 32 n) else (-a, p) := by
  have hs : IntOp.cmpi .slt p (BitVec.ofNat 32 n) = 1#1 := by
    have : p.slt (BitVec.ofNat 32 n) = true := by
      rw [BitVec.slt_eq_decide, decide_eq_true_eq, BitVec.toInt_eq_toNat_of_lt (by omega), BitVec.toInt_eq_toNat_of_lt (by
        rw [BitVec.toNat_ofNat]; omega), BitVec.toNat_ofNat]
      omega
    simp [IntOp.cmpi, this]
  unfold reducer_argmax_f32_i32
  simp only [hs, Ideal.cmpf_def, Ideal.cmp, EReal.neg_lt_neg_iff]
  rcases lt_trichotomy b a with h | h | h
  · simp [h, h.ne, h.ne', h.not_gt, Scalar.select, IntOp.ori, IntOp.andi]
  · simp [h, Scalar.select, IntOp.ori, IntOp.andi]
  · simp [h, h.ne, h.ne', h.not_gt, Scalar.select, IntOp.ori, IntOp.andi]

/-- The index of the least among the first `k + 1` is at most `k`. -/
theorem arg_le (d : ℕ → EReal) (k : ℕ) (hk : k < 9) : (arg d k).toNat ≤ k := by
  induction k with
  | zero => exact le_refl _
  | succ k ih =>
    rw [arg_succ]
    split
    · rw [BitVec.toNat_ofNat]; omega
    · exact (ih (by omega)).trans (Nat.le_succ k)

/-- The search through candidate `k + 1`, given it through candidate `k`. -/
theorem fold_succ (d : ℕ → EReal) (k : ℕ) (hk : k + 1 < 9) :
    reducer_argmax_f32_i32 (F := Ideal) (-lo d k, arg d k) (-d (k + 1), BitVec.ofNat 32 (k + 1)) = (-lo d (k + 1), arg d (k + 1)) := by
  rw [step_at _ _ _ _ (Nat.lt_succ_of_le (arg_le d k (by omega))) hk, lo_succ, arg_succ]
  split <;> rfl

/-- The index of the greatest along the candidate axis. -/
def bestOf (x : FVec Ideal S2x2x9x512x512 .f32) : IVec S2x2x512x512 32 := fun j =>
  (Host.argReduce reducer_argmax_f32_i32 x (iotaInDim S2x2x9x512x512 32 2) (constant S_ .f32 0xFF800000#32)
    (constantI S_ 32 0#32) reducesTo_S2x2x9x512x512_S2x2x512x512_d2 h_S_ j).2

/-- The whole search at a pixel: the index it returns. -/
theorem argmax_at (x : FVec Ideal S2x2x9x512x512 .f32) (d : ℕ → EReal) (b c : Fin 2) (i j : Fin 512)
    (hx : ∀ s : Fin 9, x (ix5 b c s i j) = -d s.val) :
    (Host.argReduce reducer_argmax_f32_i32 x (iotaInDim S2x2x9x512x512 32 2) (constant S_ .f32 0xFF800000#32) (constantI S_ 32 0#32)
      reducesTo_S2x2x9x512x512_S2x2x512x512_d2 h_S_ (ix4 b c i j)).2 = arg d 8 := by
  rw [Ideal.argReduce_eq_reduce2, Host.reduce2_eq_foldl_fiber]
  unfold Host.argReduceFiber
  rw [places_at, List.map_map, List.foldl_map]
  have e : ∀ s : Fin 9, ((fun n => (x (S2x2x9x512x512.rowMajor.symm n), iotaInDim S2x2x9x512x512 32 2 (S2x2x9x512x512.rowMajor.symm n))) ∘
      fun s => S2x2x9x512x512.rowMajor (ix5 b c s i j)) s = (-d s.val, BitVec.ofNat 32 s.val) := fun s => by
    show (x _, iotaInDim S2x2x9x512x512 32 2 _) = _
    rw [Equiv.symm_apply_apply, hx]
    rfl
  simp only [e]
  have h0 : reducer_argmax_f32_i32 (F := Ideal) (⊥, 0#32) (-d 0, BitVec.ofNat 32 0) = (-lo d 0, arg d 0) := by
    unfold reducer_argmax_f32_i32
    simp only [Ideal.cmpf_def, Ideal.cmp]
    rcases eq_or_lt_of_le (bot_le : ⊥ ≤ -d 0) with h | h
    · simp [← h, lo, arg, Scalar.select, IntOp.ori, IntOp.andi]
    · simp [h.ne, h.not_gt, lo, arg, Scalar.select, IntOp.ori, IntOp.andi]
  show (reducer_argmax_f32_i32 (reducer_argmax_f32_i32 (reducer_argmax_f32_i32 (reducer_argmax_f32_i32 (reducer_argmax_f32_i32
    (reducer_argmax_f32_i32 (reducer_argmax_f32_i32 (reducer_argmax_f32_i32 (reducer_argmax_f32_i32 (Ideal.ofBits .f32 0xFF800000#32, 0#32) (-d 0, BitVec.ofNat 32 0))
    (-d (0 + 1), BitVec.ofNat 32 (0 + 1))) (-d (1 + 1), BitVec.ofNat 32 (1 + 1))) (-d (2 + 1), BitVec.ofNat 32 (2 + 1)))
    (-d (3 + 1), BitVec.ofNat 32 (3 + 1))) (-d (4 + 1), BitVec.ofNat 32 (4 + 1))) (-d (5 + 1), BitVec.ofNat 32 (5 + 1)))
    (-d (6 + 1), BitVec.ofNat 32 (6 + 1))) (-d (7 + 1), BitVec.ofNat 32 (7 + 1))).2 = _
  rw [show Ideal.ofBits .f32 0xFF800000#32 = ⊥ by simp [Ideal.ofBits, Ideal.ieee], h0, fold_succ _ _ (by decide), fold_succ _ _ (by decide), fold_succ _ _ (by decide), fold_succ _ _ (by decide),
    fold_succ _ _ (by decide), fold_succ _ _ (by decide), fold_succ _ _ (by decide), fold_succ _ _ (by decide)]

theorem bestOf_eq (x : FVec Ideal S2x2x9x512x512 .f32) : bestOf x = fun t =>
    (Host.argReduce reducer_argmax_f32_i32 x (iotaInDim S2x2x9x512x512 32 2) (constant S_ .f32 0xFF800000#32)
    (constantI S_ 32 0#32) reducesTo_S2x2x9x512x512_S2x2x512x512_d2 h_S_ t).2 := by
  delta bestOf
  exact Eq.refl _

/-- Over the negatives of nine distances, the index is the first nearest. -/
theorem bestOf_at (x : FVec Ideal S2x2x9x512x512 .f32) (d : ℕ → EReal) (b c : Fin 2) (i j : Fin 512)
    (hx : ∀ s : Fin 9, x (ix5 b c s i j) = -d s.val) : bestOf x (ix4 b c i j) = arg d 8 :=
  (congrFun (bestOf_eq x) (ix4 b c i j)).trans (argmax_at x d b c i j hx)

end Cert.ReferenceIdeal.Steps

end
-- ==== Proof.RefStack.lean ====
/-
  The reference's pick read at an index: the nine distances stacked, negated, searched for the greatest, the index found written out as a
  one-hot array over the candidates.
-/
module

public import proofs.«01_k».proof.Proof.RefArg

@[expose] public section

set_option Elab.async false
set_option maxRecDepth 4096

noncomputable section

namespace Cert.ReferenceIdeal.Steps

open Cert.ReferenceIdeal Cert.ReferenceIdeal.Gen Idealize.ShloMosaic Idealize.ShloMosaic.TcCoe Idealize.SL.Sem Idealize.ShloMosaic.StableHlo Cert.Spec

/-- A plane with a candidate axis of length one. -/
abbrev lift1 (a : FVec Ideal S2x2x512x512 .f32) : FVec Ideal S2x2x1x512x512 .f32 :=
  broadcastInDim S2x2x1x512x512 ![0, 1, 3, 4] bcast_S2x2x512x512_S2x2x1x512x512_0_1_3_4 a

/-- Nine planes stacked along the candidate axis. -/
def stack9 (a0 a1 a2 a3 a4 a5 a6 a7 a8 : FVec Ideal S2x2x512x512 .f32) : FVec Ideal S2x2x9x512x512 .f32 :=
  concatenate S2x2x9x512x512 2 [⟨S2x2x1x512x512, lift1 a0⟩, ⟨S2x2x1x512x512, lift1 a1⟩, ⟨S2x2x1x512x512, lift1 a2⟩,
    ⟨S2x2x1x512x512, lift1 a3⟩, ⟨S2x2x1x512x512, lift1 a4⟩, ⟨S2x2x1x512x512, lift1 a5⟩, ⟨S2x2x1x512x512, lift1 a6⟩,
    ⟨S2x2x1x512x512, lift1 a7⟩, ⟨S2x2x1x512x512, lift1 a8⟩] concatenates_S2x2x1x512x512_S2x2x1x512x512_S2x2x1x512x512_S2x2x1x512x512_S2x2x1x512x512_S2x2x1x512x512_S2x2x1x512x512_S2x2x1x512x512_S2x2x1x512x512_S2x2x9x512x512_d2

/-- The stack at a candidate is that plane. -/
theorem stack9_at (a0 a1 a2 a3 a4 a5 a6 a7 a8 : FVec Ideal S2x2x512x512 .f32) (b c : Fin 2) (s : Fin 9) (i j : Fin 512) :
    stack9 a0 a1 a2 a3 a4 a5 a6 a7 a8 (ix5 b c s i j) = (![a0, a1, a2, a3, a4, a5, a6, a7, a8] s) (ix4 b c i j) := by
  fin_cases s <;> pointwise [stack9]

set_option maxHeartbeats 2000000 in
/-- The two stretches leave the stack, negated. -/
theorem stack_out (V : Valuation τ sig (Elt Ideal)) : after stackB (after stackA V) (no_index (Proc.devRef .tc main_v56))
    = Host.negf (stack9 (V (Proc.devRef .tc main_v13)) (V (Proc.devRef .tc main_v17)) (V (Proc.devRef .tc main_v21))
        (V (Proc.devRef .tc main_v25)) (V (Proc.devRef .tc main_v29)) (V (Proc.devRef .tc main_v33)) (V (Proc.devRef .tc main_v37))
        (V (Proc.devRef .tc main_v41)) (V (Proc.devRef .tc main_v45))) := by
  unfold stackA stackB
  after_results_simp
  rfl

set_option maxHeartbeats 2000000 in
/-- And the stack itself. -/
theorem stack_plain (V : Valuation τ sig (Elt Ideal)) : after stackB (after stackA V) (no_index (Proc.devRef .tc main_v55))
    = stack9 (V (Proc.devRef .tc main_v13)) (V (Proc.devRef .tc main_v17)) (V (Proc.devRef .tc main_v21))
        (V (Proc.devRef .tc main_v25)) (V (Proc.devRef .tc main_v29)) (V (Proc.devRef .tc main_v33)) (V (Proc.devRef .tc main_v37))
        (V (Proc.devRef .tc main_v41)) (V (Proc.devRef .tc main_v45)) := by
  unfold stackA stackB
  after_results_simp
  rfl

end Cert.ReferenceIdeal.Steps

end
-- ==== Proof.RefDists.lean ====
/-
  The reference's nine distances read at an index: candidate by candidate the specification's.
-/
module

public import proofs.«01_k».proof.Proof.RefPoints
public import proofs.«01_k».proof.Proof.RefDist
public import proofs.«01_k».proof.Proof.RefStack

@[expose] public section

set_option Elab.async false
set_option maxRecDepth 4096

noncomputable section

namespace Cert.ReferenceIdeal.Steps

open Cert.ReferenceIdeal Cert.ReferenceIdeal.Gen Idealize.ShloMosaic Idealize.ShloMosaic.TcCoe Idealize.SL.Sem Idealize.ShloMosaic.StableHlo Cert.Spec

/-- Nine stacks of distances from the moved planes `S` to the points `B`. -/
def distances (S B : FVec Ideal S2x2x3x512x512 .f32) : FVec Ideal S2x2x9x512x512 .f32 :=
  stack9 (distOf (colsUp (rowsUp S)) B) (distOf (colsStay (rowsUp S)) B) (distOf (colsDown (rowsUp S)) B)
    (distOf (colsUp (rowsStay S)) B) (distOf (colsStay (rowsStay S)) B) (distOf (colsDown (rowsStay S)) B)
    (distOf (colsUp (rowsDown S)) B) (distOf (colsStay (rowsDown S)) B) (distOf (colsDown (rowsDown S)) B)

/-- The row move of digit `d`. -/
def rows (d : Fin 3) : FVec Ideal S2x2x3x512x512 .f32 → FVec Ideal S2x2x3x512x512 .f32 := ![rowsUp, rowsStay, rowsDown] d

/-- The column move of digit `d`. -/
def cols (d : Fin 3) : FVec Ideal S2x2x3x512x512 .f32 → FVec Ideal S2x2x3x512x512 .f32 := ![colsUp, colsStay, colsDown] d

/-- Planes moved along both axes, read at an index. -/
theorem moved_at (S : FVec Ideal S2x2x3x512x512 .f32) (h w : Fin 3) (b c : Fin 2) (e : Fin 3) (i j : Fin 512) :
    cols w (rows h S) (ix5 b c e i j) = S (ix5 b c e (nb h.val i) (nb w.val j)) := by
  have hc : ∀ X : FVec Ideal S2x2x3x512x512 .f32, cols w X (ix5 b c e i j) = X (ix5 b c e i (nb w.val j)) := fun X => by
    fin_cases w
    exacts [(cols_at X b c e i j).1, (cols_at X b c e i j).2.1, (cols_at X b c e i j).2.2]
  rw [hc]
  fin_cases h
  exacts [(rows_at S b c e i _).1, (rows_at S b c e i _).2.1, (rows_at S b c e i _).2.2]

/-- The distances of candidate `s`: its two digits move the planes. -/
theorem distances_at (S B : FVec Ideal S2x2x3x512x512 .f32) (b c : Fin 2) (s : Fin 9) (i j : Fin 512) :
    distances S B (ix5 b c s i j)
      = distOf (cols ⟨s.val % 3, by omega⟩ (rows ⟨s.val / 3, by omega⟩ S)) B (ix4 b c i j) := by
  unfold distances
  rw [stack9_at]
  fin_cases s <;> rfl

theorem near_eq (s : Fin 9) (i : Fin 512) : near s.val i = nb (s.val / 3) i := Fin.ext (by
  show (i.val + 511 + (2 - s.val / 3)) % 512 = (i.val + 513 - s.val / 3 % 3) % 512
  omega)

theorem nb_mod (s : ℕ) (j : Fin 512) : nb s j = nb (s % 3) j := Fin.ext (by
  show (j.val + 513 - s % 3) % 512 = (j.val + 513 - s % 3 % 3) % 512
  omega)

/-- The reference's distances are the specification's. -/
theorem distances_eq (x y z : FVec Ideal S2x2x1x512x512 .f32) (p : FVec Ideal S2x2x2x512x512 .f32) (k : FVec Ideal S3x3 .f32)
    (b c : Fin 2) (s : Fin 9) (i j : Fin 512) :
    distances (stack3 x y z) (backOf z p k) (ix5 b c s i j)
      = Spec.dist (fun a d => k (ix2 a d)) (fun i j => p (ix5 b c 0 i j)) (fun i j => p (ix5 b c 1 i j)) (fun i j => x (ix5 b c 0 i j))
          (fun i j => y (ix5 b c 0 i j)) (fun i j => z (ix5 b c 0 i j)) i j s.val := by
  rw [distances_at, distOf_at]
  simp only [moved_at, stack3_at, backOf_at]
  unfold Spec.dist far
  rw [near_eq, nb_mod s.val]
  rfl

end Cert.ReferenceIdeal.Steps

end
-- ==== Proof.RefPick.lean ====
/-
  The reference's pick read at an index: the nine distances stacked, negated, searched for the greatest, the index found written out as a
  one-hot array over the candidates.
-/
module

public import proofs.«01_k».proof.Proof.RefArg

@[expose] public section

set_option Elab.async false
set_option maxRecDepth 4096

noncomputable section

namespace Cert.ReferenceIdeal.Steps

open Cert.ReferenceIdeal Cert.ReferenceIdeal.Gen Idealize.ShloMosaic Idealize.ShloMosaic.TcCoe Idealize.SL.Sem Idealize.ShloMosaic.StableHlo Cert.Spec

/-- An index per pixel, as a one-hot array over the candidates. -/
def hotOf (I : IVec S2x2x512x512 32) : FVec Ideal S2x2x9x512x512 .f32 :=
  transpose S2x2x9x512x512 [0, 1, 4, 2, 3]
    (uitofp .f32 (cmpi .eq
      (broadcastInDim S2x2x512x512x9 ![0, 1, 2, 3, 4] bcast_S2x2x512x512x1_S2x2x512x512x9_0_1_2_3_4
        (broadcastInDim S2x2x512x512x1 ![0, 1, 2, 3] bcast_S2x2x512x512_S2x2x512x512x1_0_1_2_3 I))
      (broadcastInDim S2x2x512x512x9 ![0, 1, 2, 3, 4] bcast_S1x1x1x1x9_S2x2x512x512x9_0_1_2_3_4 (iotaInDim S1x1x1x1x9 32 4))))
    transposes_S2x2x512x512x9_S2x2x9x512x512_0_1_4_2_3

/-- A truth value as a float is one or zero. -/
theorem flag_at (p : BitVec 1) : FloatOps.uitofp (F := Ideal) .f32 p = if p = 1#1 then 1 else 0 := by
  show (((p.toNat : ℕ) : ℝ) : EReal) = _
  rcases BitVec.eq_zero_or_eq_one p with h | h <;> subst h <;> simp

/-- The one-hot array at a candidate: one where the index is the candidate. -/
theorem hotOf_at (I : IVec S2x2x512x512 32) (b c : Fin 2) (s : Fin 9) (i j : Fin 512) :
    hotOf I (ix5 b c s i j) = if I (ix4 b c i j) = BitVec.ofNat 32 s.val then 1 else 0 := by
  pointwise [hotOf]
  rw [flag_at]
  refine if_congr ?_ rfl rfl
  by_cases h : I (ix4 b c i j) = BitVec.ofNat 32 s.val
  · simp [h, IntOp.cmpi]
  · have e : (I (ix4 b c i j) == BitVec.ofNat 32 s.val) = false := by simp [h]
    simp [h, e, IntOp.cmpi]

set_option maxHeartbeats 2000000 in
/-- The stretch leaves that array. -/
theorem pick_out (V : Valuation τ sig (Elt Ideal)) : after pick V (no_index (Proc.devRef .tc main_v59))
    = hotOf (bestOf (V (Proc.devRef .tc main_v56))) := by
  unfold Steps.pick
  simp only [TRef.binary, TRef.unary, TRef.nullary, TRef.quaternary, TRef.toBuf, TRef.ofBuf, cast_eq]
  after_results_simp
  rfl

end Cert.ReferenceIdeal.Steps

end
-- ==== Proof.RefMask.lean ====
/-
  The reference's masks and selections read at an index: which pixels are valid, which candidate weights are kept, and where they give way to
  the centre's.
-/
module

public import proofs.«01_k».proof.Proof.RefPick

@[expose] public section

set_option Elab.async false
set_option maxRecDepth 4096

noncomputable section

namespace Cert.ReferenceIdeal.Steps

open Cert.ReferenceIdeal Cert.ReferenceIdeal.Gen Idealize.ShloMosaic Idealize.ShloMosaic.TcCoe Idealize.SL.Sem Idealize.ShloMosaic.StableHlo Cert.Spec

/-- One half is between zero and one. -/
theorem half_between : 0 < half ∧ half < 1 := by
  have h : half = (((1 : ℝ) / 2 : ℝ) : EReal) := by
    unfold half
    simp [Ideal.ofBits, Ideal.ieee, -EReal.coe_mul]
    norm_num
  rw [h]
  exact ⟨by exact_mod_cast (by norm_num : (0 : ℝ) < 1 / 2), by exact_mod_cast (by norm_num : (1 : ℝ) / 2 < 1)⟩

/-- A decided proposition as a float. -/
theorem flag_dec (p : Prop) [Decidable p] : FloatOps.uitofp (F := Ideal) .f32 (BitVec.ofBool (decide p)) = if p then 1 else 0 := by
  rw [flag_at]
  by_cases h : p <;> simp [h]

/-- Its negation as a float. -/
theorem flag_not (p : Prop) [Decidable p] : FloatOps.uitofp (F := Ideal) .f32 (~~~BitVec.ofBool (decide p)) = if p then 0 else 1 := by
  rw [flag_at]
  by_cases h : p <;> simp [h]

theorem one_sub_one : (1 : EReal) - 1 = 0 := by
  show ((1 : ℝ) : EReal) - ((1 : ℝ) : EReal) = 0
  rw [← EReal.coe_sub]
  simp

/-- Where the mask and the depth both hold, as 0 or 1. -/
def validOf (r z : FVec Ideal S2x2x1x512x512 .f32) : FVec Ideal S2x2x1x512x512 .f32 :=
  mulf (uitofp .f32 (cmpf .ogt r (broadcastInDim S2x2x1x512x512 ![] bcast_S_S2x2x1x512x512 (constant (F := Ideal) S_ .f32 0x3F000000#32)))) (uitofp .f32 (cmpf .ogt z (broadcastInDim S2x2x1x512x512 ![] bcast_S_S2x2x1x512x512 (constant (F := Ideal) S_ .f32 0x00000000#32))))

theorem validOf_at (r z : FVec Ideal S2x2x1x512x512 .f32) (b c : Fin 2) (i j : Fin 512) :
    validOf r z (ix5 b c 0 i j) = if half < r (ix5 b c 0 i j) ∧ 0 < z (ix5 b c 0 i j) then 1 else 0 := by
  pointwise [validOf]
  rw [flag_dec, flag_dec]
  show (if half < r (ix5 b c 0 i j) then (1 : EReal) else 0) * _ = _
  by_cases h : half < r (ix5 b c 0 i j) <;> by_cases h' : 0 < z (ix5 b c 0 i j) <;> simp [h, h']

/-- The weights kept where valid: `w` there, zero elsewhere; `q` enters only times zero. -/
def keepOf (v : FVec Ideal S2x2x1x512x512 .f32) (q w : FVec Ideal S2x2x9x512x512 .f32) : FVec Ideal S2x2x9x512x512 .f32 :=
  select (cmpf .ogt (addf (broadcastInDim S2x2x9x512x512 ![0, 1, 2, 3, 4] bcast_S2x2x1x512x512_S2x2x9x512x512_0_1_2_3_4 v) (mulf q (broadcastInDim S2x2x9x512x512 ![] bcast_S_S2x2x9x512x512 (constant (F := Ideal) S_ .f32 0x00000000#32)))) (broadcastInDim S2x2x9x512x512 ![] bcast_S_S2x2x9x512x512 (constant (F := Ideal) S_ .f32 0x3F000000#32))) w (broadcastInDim S2x2x9x512x512 ![] bcast_S_S2x2x9x512x512 (constant (F := Ideal) S_ .f32 0x00000000#32))

theorem keepOf_at (v : FVec Ideal S2x2x1x512x512 .f32) (q w : FVec Ideal S2x2x9x512x512 .f32) (b c : Fin 2) (s : Fin 9) (i j : Fin 512) :
    keepOf v q w (ix5 b c s i j) = if half < v (ix5 b c 0 i j) then w (ix5 b c s i j) else 0 := by
  pointwise [keepOf]
  rw [mul_zero, add_zero]
  rfl

/-- The weights mended where the mask holds and the depth does not: the centre's there. -/
def mendOf (r z : FVec Ideal S2x2x1x512x512 .f32) (w n : FVec Ideal S2x2x9x512x512 .f32) : FVec Ideal S2x2x9x512x512 .f32 :=
  select (cmpf .ogt (addf (mulf (broadcastInDim S2x2x9x512x512 ![] bcast_S_S2x2x9x512x512 (constant (F := Ideal) S_ .f32 0x00000000#32)) w) (broadcastInDim S2x2x9x512x512 ![0, 1, 2, 3, 4] bcast_S2x2x1x512x512_S2x2x9x512x512_0_1_2_3_4 (subf (broadcastInDim S2x2x1x512x512 ![] bcast_S_S2x2x1x512x512 (constant (F := Ideal) S_ .f32 0x3F800000#32))
    (mulf (uitofp .f32 (cmpf .ogt r (broadcastInDim S2x2x1x512x512 ![] bcast_S_S2x2x1x512x512 (constant (F := Ideal) S_ .f32 0x3F000000#32)))) (uitofp .f32 (noti (cmpf .ogt z (broadcastInDim S2x2x1x512x512 ![] bcast_S_S2x2x1x512x512 (constant (F := Ideal) S_ .f32 0x00000000#32))))))))) (broadcastInDim S2x2x9x512x512 ![] bcast_S_S2x2x9x512x512 (constant (F := Ideal) S_ .f32 0x3F000000#32))) w n

theorem mendOf_at (r z : FVec Ideal S2x2x1x512x512 .f32) (w n : FVec Ideal S2x2x9x512x512 .f32) (b c : Fin 2) (s : Fin 9) (i j : Fin 512) :
    mendOf r z w n (ix5 b c s i j)
      = if half < r (ix5 b c 0 i j) ∧ ¬ 0 < z (ix5 b c 0 i j) then n (ix5 b c s i j) else w (ix5 b c s i j) := by
  pointwise [mendOf]
  rw [flag_dec, flag_not, zero_mul, zero_add]
  show (if half < 1 - (if half < r (ix5 b c 0 i j) then (1 : EReal) else 0) * _ then _ else _) = _
  have h1 := half_between.1.not_gt
  have h2 := half_between.2
  by_cases h : half < r (ix5 b c 0 i j) <;> by_cases h' : 0 < z (ix5 b c 0 i j) <;> simp [h, h', h1, h2, one_sub_one]

/-- The weights for the mask: the centre's wherever not valid. -/
def againOf (v : FVec Ideal S2x2x1x512x512 .f32) (w n : FVec Ideal S2x2x9x512x512 .f32) : FVec Ideal S2x2x9x512x512 .f32 :=
  select (cmpf .ogt (addf (mulf (broadcastInDim S2x2x9x512x512 ![] bcast_S_S2x2x9x512x512 (constant (F := Ideal) S_ .f32 0x00000000#32)) w) (broadcastInDim S2x2x9x512x512 ![0, 1, 2, 3, 4] bcast_S2x2x1x512x512_S2x2x9x512x512_0_1_2_3_4 v)) (broadcastInDim S2x2x9x512x512 ![] bcast_S_S2x2x9x512x512 (constant (F := Ideal) S_ .f32 0x3F000000#32))) w n

theorem againOf_at (v : FVec Ideal S2x2x1x512x512 .f32) (w n : FVec Ideal S2x2x9x512x512 .f32) (b c : Fin 2) (s : Fin 9) (i j : Fin 512) :
    againOf v w n (ix5 b c s i j) = if half < v (ix5 b c 0 i j) then w (ix5 b c s i j) else n (ix5 b c s i j) := by
  pointwise [againOf]
  rw [zero_mul, zero_add]
  rfl

set_option maxHeartbeats 2000000 in
/-- The valid pixels, as left by the stretch. -/
theorem valid_out (V : Valuation τ sig (Elt Ideal)) : after valid V (no_index (Proc.devRef .tc main_v66))
    = validOf (V (Proc.devRef .tc main_arg3)) (V (Proc.devRef .tc main_arg2)) := by
  unfold valid

  after_results_simp
  rfl

set_option maxHeartbeats 2000000 in
/-- The kept weights, as left by the stretch. -/
theorem keep_out (V : Valuation τ sig (Elt Ideal)) : after keep V (no_index (Proc.devRef .tc main_v74))
    = keepOf (V (Proc.devRef .tc main_v66)) (V (Proc.devRef .tc main_v55)) (V (Proc.devRef .tc main_v59)) := by
  unfold keep
  simp only [TRef.ternary, TRef.toBuf, TRef.ofBuf, cast_eq]
  after_results_simp
  rfl

set_option maxHeartbeats 2000000 in
/-- The mended weights, as left by the stretch. -/
theorem mend_out (V : Valuation τ sig (Elt Ideal)) : after mend V (no_index (Proc.devRef .tc main_v95))
    = mendOf (V (Proc.devRef .tc main_arg3)) (V (Proc.devRef .tc main_arg2)) (V (Proc.devRef .tc main_v74)) (V (Proc.devRef .tc main_v78)) := by
  unfold mend
  simp only [TRef.ternary, TRef.toBuf, TRef.ofBuf, cast_eq]
  after_results_simp
  rfl

set_option maxHeartbeats 2000000 in
/-- The mask's weights, as left by the stretch. -/
theorem again_out (V : Valuation τ sig (Elt Ideal)) : after again V (no_index (Proc.devRef .tc main_v109))
    = againOf (V (Proc.devRef .tc main_v66)) (V (Proc.devRef .tc main_v95)) (V (Proc.devRef .tc main_v78)) := by
  unfold again
  simp only [TRef.ternary, TRef.toBuf, TRef.ofBuf, cast_eq]
  after_results_simp
  rfl

end Cert.ReferenceIdeal.Steps

end
-- ==== Proof.RefCentre.lean ====
/-
  The reference's centre weights read at an index: zeros with ones written over candidate 4.
-/
module

public import proofs.«01_k».proof.Proof.RefOps
public import proofs.«01_k».proof.Proof.Spec
public import Idealize.ShloMosaic.Lib.Pipeline.Value
public import Idealize.ShloMosaic.Lib.Routing.OpsOrder
public import Idealize.ShloMosaic.Lib.IdealHost

@[expose] public section

set_option Elab.async false
set_option maxRecDepth 4096

noncomputable section

namespace Cert.ReferenceIdeal.Steps

open Cert.ReferenceIdeal Cert.ReferenceIdeal.Gen Idealize.ShloMosaic Idealize.ShloMosaic.TcCoe Idealize.SL.Sem Idealize.ShloMosaic.StableHlo Cert.Spec

/-- Zeros with ones written at candidate 4. -/
def centreOf : FVec Ideal S2x2x9x512x512 .f32 :=
  Host.scatter scatter_S2x2x9x512x512_S1_S2x2x512x512_0123_2_2_0 (fun _ b => b)
    (broadcastInDim S2x2x9x512x512 ![] bcast_S_S2x2x9x512x512 (constant (F := Ideal) S_ .f32 0x00000000#32))
    (broadcastInDim S1 ![] bcast_S_S1 (constantI S_ 32 4#32))
    (broadcastInDim S2x2x512x512 ![] bcast_S_S2x2x512x512 (constant (F := Ideal) S_ .f32 0x3F800000#32))

/-- Writing one value at the places a property holds, over a list. -/
theorem overwrite {α β : Type} (L : List α) (p : α → Prop) [DecidablePred p] (v a : β) :
    L.foldl (fun a n => if p n then v else a) a = if ∃ n ∈ L, p n then v else a := by
  induction L generalizing a with
  | nil => simp
  | cons n L ih =>
    rw [List.foldl_cons, ih]
    by_cases h : ∃ n ∈ L, p n
    · rw [if_pos h, if_pos (h.elim fun n hn => ⟨n, List.mem_cons_of_mem _ hn.1, hn.2⟩)]
    · rw [if_neg h]
      by_cases hn : p n
      · rw [if_pos hn, if_pos ⟨n, List.mem_cons_self, hn⟩]
      · rw [if_neg hn, if_neg]
        rintro ⟨k, hk, hp⟩
        rcases List.mem_cons.mp hk with rfl | hk
        exacts [hn hp, h ⟨k, hk, hp⟩]

/-- Where an update lands: at candidate 4 of its own pixel. -/
theorem lands (j : S2x2x512x512.Idx) (b c : Fin 2) (s : Fin 9) (y x : Fin 512) :
    scatter_S2x2x9x512x512_S1_S2x2x512x512_0123_2_2_0.resultIdx? j (broadcastInDim S1 ![] bcast_S_S1 (constantI S_ 32 4#32)) = some (ix5 b c s y x)
      ↔ j = ix4 b c y x ∧ s = 4 := by
  rw [Routing.resultIdx?_eq_some]
  have hs : ∀ a, scatter_S2x2x9x512x512_S1_S2x2x512x512_0123_2_2_0.start j (broadcastInDim S1 ![] bcast_S_S1 (constantI S_ 32 4#32)) a
      = (![0, 0, 4, 0, 0] : Fin 5 → ℤ) a := fun a => by fin_cases a <;> rfl
  have hw : ∀ a, scatter_S2x2x9x512x512_S1_S2x2x512x512_0123_2_2_0.window j a
      = (![(j 0).val, (j 1).val, 0, (j 2).val, (j 3).val] : Fin 5 → ℕ) a := fun a => by fin_cases a <;> rfl
  simp only [hs, hw]
  constructor
  · intro h
    have h0 : (0 : ℤ) + ((j 0).val : ℤ) = (b.val : ℤ) := h 0
    have h1 : (0 : ℤ) + ((j 1).val : ℤ) = (c.val : ℤ) := h 1
    have h2 : (4 : ℤ) + ((0 : ℕ) : ℤ) = (s.val : ℤ) := h 2
    have h3 : (0 : ℤ) + ((j 2).val : ℤ) = (y.val : ℤ) := h 3
    have h4 : (0 : ℤ) + ((j 3).val : ℤ) = (x.val : ℤ) := h 4
    refine ⟨?_, Fin.ext (by show s.val = 4; omega)⟩
    funext a
    apply Fin.ext
    fin_cases a
    · show (j 0).val = b.val; omega
    · show (j 1).val = c.val; omega
    · show (j 2).val = y.val; omega
    · show (j 3).val = x.val; omega
  · rintro ⟨rfl, rfl⟩ a
    fin_cases a
    · exact zero_add _
    · exact zero_add _
    · rfl
    · exact zero_add _
    · exact zero_add _

/-- The weights at a candidate. -/
theorem centreOf_at (b c : Fin 2) (s : Fin 9) (i j : Fin 512) : centreOf (ix5 b c s i j) = if s = 4 then 1 else 0 := by
  unfold centreOf
  rw [← Routing.scatterIn_finRange, Routing.scatterIn_at]
  have h1 : ∀ k, broadcastInDim S2x2x512x512 ![] bcast_S_S2x2x512x512 (constant (F := Ideal) S_ .f32 0x3F800000#32) k = 1 :=
    fun _ => Ideal.ofBits_one_f32
  have h0 : broadcastInDim S2x2x9x512x512 ![] bcast_S_S2x2x9x512x512 (constant (F := Ideal) S_ .f32 0x00000000#32) (ix5 b c s i j) = 0 :=
    Ideal.ofBits_zero_f32
  simp only [h1]
  rw [h0]
  refine (overwrite _ _ _ _).trans ?_
  by_cases hs : s = 4
  · rw [if_pos hs, if_pos ⟨S2x2x512x512.rowMajor (ix4 b c i j), List.mem_finRange _,
      (lands _ b c s i j).mpr ⟨Equiv.symm_apply_apply _ _, hs⟩⟩]
  · rw [if_neg hs, if_neg]
    intro h
    obtain ⟨n, -, hn⟩ := h
    exact hs ((lands _ b c s i j).mp hn).2

set_option maxHeartbeats 2000000 in
/-- The stretch leaves those weights. -/
theorem centre_out (V : Valuation τ sig (Elt Ideal)) : after centre V (no_index (Proc.devRef .tc main_v78)) = centreOf := by
  unfold centre
  after_results_simp
  rfl

end Cert.ReferenceIdeal.Steps

end
-- ==== Proof.RefJoin.lean ====
/-
  The reference's result read at an index: the candidate axis as two axes of three, the point channels and the mask channel side by side.
-/
module

public import proofs.«01_k».proof.Proof.RefPoints

@[expose] public section

set_option Elab.async false
set_option maxRecDepth 4096

noncomputable section

namespace Cert.ReferenceIdeal.Steps

open Cert.ReferenceIdeal Cert.ReferenceIdeal.Gen Idealize.ShloMosaic Idealize.ShloMosaic.TcCoe Idealize.SL.Sem Idealize.ShloMosaic.StableHlo Cert.Spec

/-- The candidate axis as two axes of three, with a channel axis of length one. -/
theorem split_at (X : FVec Ideal S2x2x9x512x512 .f32) (b c : Fin 2) (d e : Fin 3) (i j : Fin 512) :
    shapeCast S2x2x3x3x1x512x512 X shapeCasts_S2x2x9x512x512_S2x2x3x3x1x512x512 (ix7 b c d e 0 i j) = X (ix5 b c ⟨3 * d.val + e.val, by omega⟩ i j) := by
  refine shapeCast_apply X _ _ _ ?_
  rw [rowMajor_val5 _ 4718592 2359296 262144 512 rfl rfl rfl rfl, rowMajor_val7 _ 4718592 2359296 786432 262144 262144 512 rfl rfl rfl rfl rfl rfl]
  show b.val * 4718592 + c.val * 2359296 + (3 * d.val + e.val) * 262144 + i.val * 512 + j.val
    = b.val * 4718592 + c.val * 2359296 + d.val * 786432 + e.val * 262144 + 0 * 262144 + i.val * 512 + j.val
  omega

/-- The three planes with two axes of length one before them. -/
theorem widen_at (X : FVec Ideal S2x2x3x512x512 .f32) (b c : Fin 2) (f : Fin 3) (i j : Fin 512) :
    shapeCast S2x2x1x1x3x512x512 X shapeCasts_S2x2x3x512x512_S2x2x1x1x3x512x512 (ix7 b c 0 0 f i j) = X (ix5 b c f i j) := by
  refine shapeCast_apply X _ _ _ ?_
  rw [rowMajor_val5 _ 1572864 786432 262144 512 rfl rfl rfl rfl, rowMajor_val7 _ 1572864 786432 786432 786432 262144 512 rfl rfl rfl rfl rfl rfl]
  show b.val * 1572864 + c.val * 786432 + f.val * 262144 + i.val * 512 + j.val
    = b.val * 1572864 + c.val * 786432 + 0 * 786432 + 0 * 786432 + f.val * 262144 + i.val * 512 + j.val
  omega

/-- The point channels: weights times points. -/
def xyzOf (one : FVec Ideal S_ .f32) (w : FVec Ideal S2x2x9x512x512 .f32) (p : FVec Ideal S2x2x3x512x512 .f32) : FVec Ideal S2x2x3x3x3x512x512 .f32 :=
  mulf (broadcastInDim S2x2x3x3x3x512x512 ![0, 1, 2, 3, 4, 5, 6] bcast_S2x2x3x3x1x512x512_S2x2x3x3x3x512x512_0_1_2_3_4_5_6
      (shapeCast S2x2x3x3x1x512x512 (mulf (broadcastInDim S2x2x9x512x512 ![] bcast_S_S2x2x9x512x512 one) w) shapeCasts_S2x2x9x512x512_S2x2x3x3x1x512x512))
    (broadcastInDim S2x2x3x3x3x512x512 ![0, 1, 2, 3, 4, 5, 6] bcast_S2x2x1x1x3x512x512_S2x2x3x3x3x512x512_0_1_2_3_4_5_6
      (shapeCast S2x2x1x1x3x512x512 p shapeCasts_S2x2x3x512x512_S2x2x1x1x3x512x512))

/-- The rank-7 broadcasts read at an index. -/
theorem repeat_at (X : FVec Ideal S2x2x3x3x1x512x512 .f32) (b c : Fin 2) (d e f : Fin 3) (i j : Fin 512) :
    broadcastInDim S2x2x3x3x3x512x512 ![0, 1, 2, 3, 4, 5, 6] bcast_S2x2x3x3x1x512x512_S2x2x3x3x3x512x512_0_1_2_3_4_5_6 X (ix7 b c d e f i j) = X (ix7 b c d e 0 i j) := by
  pointwise []

theorem repeat2_at (X : FVec Ideal S2x2x1x1x3x512x512 .f32) (b c : Fin 2) (d e f : Fin 3) (i j : Fin 512) :
    broadcastInDim S2x2x3x3x3x512x512 ![0, 1, 2, 3, 4, 5, 6] bcast_S2x2x1x1x3x512x512_S2x2x3x3x3x512x512_0_1_2_3_4_5_6 X (ix7 b c d e f i j) = X (ix7 b c 0 0 f i j) := by
  pointwise []

theorem xyzOf_at (w : FVec Ideal S2x2x9x512x512 .f32) (p : FVec Ideal S2x2x3x512x512 .f32) (b c : Fin 2) (d e f : Fin 3) (i j : Fin 512) :
    xyzOf (constant S_ .f32 0x3F800000#32) w p (ix7 b c d e f i j) = w (ix5 b c ⟨3 * d.val + e.val, by omega⟩ i j) * p (ix5 b c f i j) := by
  show _ * _ = _
  rw [repeat_at, repeat2_at, split_at, widen_at]
  refine congrArg (· * _) ?_
  pointwise []

/-- The whole result: point channels, then the mask channel. -/
def joinOf (q : FVec Ideal S2x2x3x3x3x512x512 .f32) (w : FVec Ideal S2x2x9x512x512 .f32) (r : FVec Ideal S2x2x1x512x512 .f32) : FVec Ideal S2x2x3x3x4x512x512 .f32 :=
  concatenate S2x2x3x3x4x512x512 4 [⟨S2x2x3x3x3x512x512, q⟩, ⟨S2x2x3x3x1x512x512, shapeCast S2x2x3x3x1x512x512
    (mulf (mulf (broadcastInDim S2x2x9x512x512 ![] bcast_S_S2x2x9x512x512 (constant (F := Ideal) S_ .f32 0x3F800000#32)) w)
      (broadcastInDim S2x2x9x512x512 ![0, 1, 2, 3, 4] bcast_S2x2x1x512x512_S2x2x9x512x512_0_1_2_3_4 r)) shapeCasts_S2x2x9x512x512_S2x2x3x3x1x512x512⟩]
    concatenates_S2x2x3x3x3x512x512_S2x2x3x3x1x512x512_S2x2x3x3x4x512x512_d4

/-- Two arrays side by side along the channel axis: below channel 3 the first, at channel 3 the second. -/
theorem beside_at (q : FVec Ideal S2x2x3x3x3x512x512 .f32) (u : FVec Ideal S2x2x3x3x1x512x512 .f32) (b c : Fin 2) (d e : Fin 3) (i j : Fin 512) :
    (∀ f : Fin 3, concatenate S2x2x3x3x4x512x512 4 [⟨S2x2x3x3x3x512x512, q⟩, ⟨S2x2x3x3x1x512x512, u⟩]
      concatenates_S2x2x3x3x3x512x512_S2x2x3x3x1x512x512_S2x2x3x3x4x512x512_d4 (ix7 b c d e f.castSucc i j) = q (ix7 b c d e f i j))
    ∧ concatenate S2x2x3x3x4x512x512 4 [⟨S2x2x3x3x3x512x512, q⟩, ⟨S2x2x3x3x1x512x512, u⟩]
      concatenates_S2x2x3x3x3x512x512_S2x2x3x3x1x512x512_S2x2x3x3x4x512x512_d4 (ix7 b c d e 3 i j) = u (ix7 b c d e 0 i j) := by
  refine ⟨fun f => ?_, ?_⟩
  · fin_cases f <;> pointwise [] <;> exact dif_pos (by decide)
  · pointwise []

theorem joinOf_at (q : FVec Ideal S2x2x3x3x3x512x512 .f32) (w : FVec Ideal S2x2x9x512x512 .f32) (r : FVec Ideal S2x2x1x512x512 .f32) (b c : Fin 2) (d e : Fin 3) (i j : Fin 512) :
    (∀ f : Fin 3, joinOf q w r (ix7 b c d e f.castSucc i j) = q (ix7 b c d e f i j))
      ∧ joinOf q w r (ix7 b c d e 3 i j) = w (ix5 b c ⟨3 * d.val + e.val, by omega⟩ i j) * r (ix5 b c 0 i j) := by
  refine ⟨(beside_at q _ b c d e i j).1, (beside_at q _ b c d e i j).2.trans ?_⟩
  rw [split_at]
  pointwise []

set_option maxHeartbeats 2000000 in
/-- The number one, as left by the stretch. -/
theorem one_out (V : Valuation τ sig (Elt Ideal)) : after one V (no_index (Proc.devRef .tc main_cst_21))
    = constant (F := Ideal) S_ .f32 0x3F800000#32 := by
  unfold one
  after_results_simp

set_option maxHeartbeats 2000000 in
/-- The point channels, as left by the stretch. -/
theorem xyz_out (V : Valuation τ sig (Elt Ideal)) : after xyz V (no_index (Proc.devRef .tc main_v102))
    = xyzOf (V (Proc.devRef .tc main_cst_21)) (V (Proc.devRef .tc main_v95)) (V (Proc.devRef .tc main_v0)) := by
  unfold xyz
  after_results_simp
  rfl

set_option maxHeartbeats 2000000 in
/-- The result, as left by the stretch. -/
theorem join_out (V : Valuation τ sig (Elt Ideal)) : after join V (no_index (Proc.devRef .tc main_v115))
    = joinOf (V (Proc.devRef .tc main_v102)) (V (Proc.devRef .tc main_v109)) (V (Proc.devRef .tc main_arg3)) := by
  unfold join
  after_results_simp
  rfl

end Cert.ReferenceIdeal.Steps

end
-- ==== Proof.RefWhole.lean ====
/-
  The reference's stretches put together: the result buffer as one function of the arguments.
-/
module

public import proofs.«01_k».proof.Proof.RefRun
public import proofs.«01_k».proof.Proof.RefDists
public import proofs.«01_k».proof.Proof.RefPick
public import proofs.«01_k».proof.Proof.RefMask
public import proofs.«01_k».proof.Proof.RefCentre
public import proofs.«01_k».proof.Proof.RefJoin

@[expose] public section

set_option Elab.async false
set_option maxRecDepth 4096
set_option maxHeartbeats 400000

noncomputable section

namespace Cert.ReferenceIdeal.Steps

open Cert.ReferenceIdeal Cert.ReferenceIdeal.Gen Idealize.ShloMosaic Idealize.ShloMosaic.TcCoe Idealize.SL.Sem Idealize.ShloMosaic.StableHlo

variable (V : Valuation τ sig (Elt Ideal)) (r : Ref sig .tc)

/-! A buffer a stretch does not write keeps its contents over it. -/

theorem points_kept (h : r ∉ pointsW) : after points V (no_index (Proc.devRef .tc r)) = V (Proc.devRef .tc r) :=
  after_of_writes_sub points V (forall_writes_sub_of_map points_writes) h

theorem dist0_kept (h : r ∉ dist0W) : after dist0 V (no_index (Proc.devRef .tc r)) = V (Proc.devRef .tc r) :=
  after_of_writes_sub dist0 V (forall_writes_sub_of_map dist0_writes) h

theorem dist1_kept (h : r ∉ dist1W) : after dist1 V (no_index (Proc.devRef .tc r)) = V (Proc.devRef .tc r) :=
  after_of_writes_sub dist1 V (forall_writes_sub_of_map dist1_writes) h

theorem dist2_kept (h : r ∉ dist2W) : after dist2 V (no_index (Proc.devRef .tc r)) = V (Proc.devRef .tc r) :=
  after_of_writes_sub dist2 V (forall_writes_sub_of_map dist2_writes) h

theorem dist3_kept (h : r ∉ dist3W) : after dist3 V (no_index (Proc.devRef .tc r)) = V (Proc.devRef .tc r) :=
  after_of_writes_sub dist3 V (forall_writes_sub_of_map dist3_writes) h

theorem dist4_kept (h : r ∉ dist4W) : after dist4 V (no_index (Proc.devRef .tc r)) = V (Proc.devRef .tc r) :=
  after_of_writes_sub dist4 V (forall_writes_sub_of_map dist4_writes) h

theorem dist5_kept (h : r ∉ dist5W) : after dist5 V (no_index (Proc.devRef .tc r)) = V (Proc.devRef .tc r) :=
  after_of_writes_sub dist5 V (forall_writes_sub_of_map dist5_writes) h

theorem dist6_kept (h : r ∉ dist6W) : after dist6 V (no_index (Proc.devRef .tc r)) = V (Proc.devRef .tc r) :=
  after_of_writes_sub dist6 V (forall_writes_sub_of_map dist6_writes) h

theorem dist7_kept (h : r ∉ dist7W) : after dist7 V (no_index (Proc.devRef .tc r)) = V (Proc.devRef .tc r) :=
  after_of_writes_sub dist7 V (forall_writes_sub_of_map dist7_writes) h

theorem dist8_kept (h : r ∉ dist8W) : after dist8 V (no_index (Proc.devRef .tc r)) = V (Proc.devRef .tc r) :=
  after_of_writes_sub dist8 V (forall_writes_sub_of_map dist8_writes) h

theorem stackA_kept (h : r ∉ stackAW) : after stackA V (no_index (Proc.devRef .tc r)) = V (Proc.devRef .tc r) :=
  after_of_writes_sub stackA V (forall_writes_sub_of_map stackA_writes) h

theorem stackB_kept (h : r ∉ stackBW) : after stackB V (no_index (Proc.devRef .tc r)) = V (Proc.devRef .tc r) :=
  after_of_writes_sub stackB V (forall_writes_sub_of_map stackB_writes) h

theorem pick_kept (h : r ∉ pickW) : after Steps.pick V (no_index (Proc.devRef .tc r)) = V (Proc.devRef .tc r) :=
  after_of_writes_sub Steps.pick V (forall_writes_sub_of_map pick_writes) h

theorem valid_kept (h : r ∉ validW) : after valid V (no_index (Proc.devRef .tc r)) = V (Proc.devRef .tc r) :=
  after_of_writes_sub valid V (forall_writes_sub_of_map valid_writes) h

theorem keep_kept (h : r ∉ keepW) : after keep V (no_index (Proc.devRef .tc r)) = V (Proc.devRef .tc r) :=
  after_of_writes_sub keep V (forall_writes_sub_of_map keep_writes) h

theorem centre_kept (h : r ∉ centreW) : after centre V (no_index (Proc.devRef .tc r)) = V (Proc.devRef .tc r) :=
  after_of_writes_sub centre V (forall_writes_sub_of_map centre_writes) h

theorem mend_kept (h : r ∉ mendW) : after mend V (no_index (Proc.devRef .tc r)) = V (Proc.devRef .tc r) :=
  after_of_writes_sub mend V (forall_writes_sub_of_map mend_writes) h

theorem one_kept (h : r ∉ oneW) : after one V (no_index (Proc.devRef .tc r)) = V (Proc.devRef .tc r) :=
  after_of_writes_sub one V (forall_writes_sub_of_map one_writes) h

theorem xyz_kept (h : r ∉ xyzW) : after xyz V (no_index (Proc.devRef .tc r)) = V (Proc.devRef .tc r) :=
  after_of_writes_sub xyz V (forall_writes_sub_of_map xyz_writes) h

theorem again_kept (h : r ∉ againW) : after again V (no_index (Proc.devRef .tc r)) = V (Proc.devRef .tc r) :=
  after_of_writes_sub again V (forall_writes_sub_of_map again_writes) h

theorem join_kept (h : r ∉ joinW) : after join V (no_index (Proc.devRef .tc r)) = V (Proc.devRef .tc r) :=
  after_of_writes_sub join V (forall_writes_sub_of_map join_writes) h

/-- The weights before the second centring: the one-hot pick where valid, the centre where only the mask holds. -/
def weights (x y z r : FVec Ideal S2x2x1x512x512 .f32) (p : FVec Ideal S2x2x2x512x512 .f32) (k : FVec Ideal S3x3 .f32) : FVec Ideal S2x2x9x512x512 .f32 :=
  mendOf r z (keepOf (validOf r z) (distances (stack3 x y z) (backOf z p k))
    (hotOf (bestOf (Host.negf (distances (stack3 x y z) (backOf z p k)))))) centreOf

/-- The whole result. -/
def result (x y z r : FVec Ideal S2x2x1x512x512 .f32) (p : FVec Ideal S2x2x2x512x512 .f32) (k : FVec Ideal S3x3 .f32) : FVec Ideal S2x2x3x3x4x512x512 .f32 :=
  joinOf (xyzOf (constant S_ .f32 0x3F800000#32) (weights x y z r p k) (stack3 x y z))
    (againOf (validOf r z) (weights x y z r p k) centreOf) r

/-- The stretches run one after another. -/
theorem ops_split : after ops V
    = after join (after again (after xyz (after one (after mend (after centre (after keep (after valid (after Steps.pick
        (after stackB (after stackA (after dist8 (after dist7 (after dist6 (after dist5 (after dist4 (after dist3 (after dist2 (after dist1
          (after dist0 (after points V)))))))))))))))))))) := by
  unfold ops window0 window1 window2
  simp only [after_append]

/-- The distances and their negatives, after the two stacking stretches, in terms of what came before the nine. -/
theorem distances_out :
    after stackB (after stackA (after dist8 (after dist7 (after dist6 (after dist5 (after dist4 (after dist3 (after dist2 (after dist1
      (after dist0 V)))))))))) (Proc.devRef .tc main_v55)
        = distances (V (Proc.devRef .tc main_v1)) (V (Proc.devRef .tc main_v9))
    ∧ after stackB (after stackA (after dist8 (after dist7 (after dist6 (after dist5 (after dist4 (after dist3 (after dist2 (after dist1
      (after dist0 V)))))))))) (Proc.devRef .tc main_v56)
        = Host.negf (distances (V (Proc.devRef .tc main_v1)) (V (Proc.devRef .tc main_v9))) := by
  constructor
  · rw [stack_plain]
    simp (disch := decide) only [dist0_out, dist1_out, dist2_out, dist3_out, dist4_out, dist5_out, dist6_out, dist7_out, dist8_out,
      dist0_kept, dist1_kept, dist2_kept, dist3_kept, dist4_kept, dist5_kept, dist6_kept, dist7_kept, dist8_kept]
    rfl
  · rw [stack_out]
    simp (disch := decide) only [dist0_out, dist1_out, dist2_out, dist3_out, dist4_out, dist5_out, dist6_out, dist7_out, dist8_out,
      dist0_kept, dist1_kept, dist2_kept, dist3_kept, dist4_kept, dist5_kept, dist6_kept, dist7_kept, dist8_kept]
    rfl

/-- The result buffer holds the result of the arguments. -/
theorem ops_result : after ops V (Proc.devRef .tc main_v115)
    = result (V (Proc.devRef .tc main_arg0)) (V (Proc.devRef .tc main_arg1)) (V (Proc.devRef .tc main_arg2)) (V (Proc.devRef .tc main_arg3))
        (V (Proc.devRef .tc main_arg4)) (V (Proc.devRef .tc main_arg6)) := by
  rw [ops_split]
  simp (disch := decide) only [join_out, again_out, again_kept, xyz_out, xyz_kept, one_out, one_kept, mend_out, mend_kept, centre_out,
    centre_kept, keep_out, keep_kept, valid_out, valid_kept, pick_out, pick_kept, (distances_out (after points V)).1,
    (distances_out (after points V)).2, stackB_kept, stackA_kept, dist0_kept, dist1_kept, dist2_kept, dist3_kept, dist4_kept, dist5_kept,
    dist6_kept, dist7_kept, dist8_kept, points_v0, points_v1, points_v9, points_kept]
  rfl

end Cert.ReferenceIdeal.Steps

end
-- ==== Proof.RefValue.lean ====
/-
  The reference's result, index by index, is the specification's value.
-/
module

public import proofs.«01_k».proof.Proof.RefWhole

@[expose] public section

set_option Elab.async false
set_option maxRecDepth 4096

noncomputable section

namespace Cert.ReferenceIdeal.Steps

open Cert.ReferenceIdeal Cert.ReferenceIdeal.Gen Idealize.ShloMosaic Idealize.ShloMosaic.TcCoe Idealize.SL.Sem Idealize.ShloMosaic.StableHlo Cert.Spec

variable (x y z r : FVec Ideal S2x2x1x512x512 .f32) (p : FVec Ideal S2x2x2x512x512 .f32) (k : FVec Ideal S3x3 .f32)

/-- The specification's distances at pixel `(i, j)` of image `(b, c)`. -/
def near9 (b c : Fin 2) (i j : Fin 512) : ℕ → EReal :=
  Spec.dist (fun a d => k (ix2 a d)) (fun i j => p (ix5 b c 0 i j)) (fun i j => p (ix5 b c 1 i j)) (fun i j => x (ix5 b c 0 i j))
    (fun i j => y (ix5 b c 0 i j)) (fun i j => z (ix5 b c 0 i j)) i j

theorem negf_at (X : FVec Ideal S2x2x9x512x512 .f32) (t : S2x2x9x512x512.Idx) : Host.negf X t = -X t := rfl

/-- The winning candidate is the first nearest. -/
theorem best_at (b c : Fin 2) (i j : Fin 512) :
    bestOf (Host.negf (distances (stack3 x y z) (backOf z p k))) (ix4 b c i j) = arg (near9 x y z p k b c i j) 8 := by
  refine bestOf_at _ _ b c i j fun s => ?_
  rw [negf_at, distances_eq]
  unfold near9
  rfl

theorem centre_word (s : Fin 9) : (s = 4) ↔ (4#32 = BitVec.ofNat 32 s.val) := by
  revert s
  decide

/-- The weights at an index: nothing where the mask fails, else the specification's pick. -/
theorem weights_at (b c : Fin 2) (s : Fin 9) (i j : Fin 512) :
    weights x y z r p k (ix5 b c s i j)
      = if Spec.pick (near9 x y z p k b c i j) (z (ix5 b c 0 i j)) (r (ix5 b c 0 i j)) = BitVec.ofNat 32 s.val
          then (if half < r (ix5 b c 0 i j) then 1 else 0) else 0 := by
  unfold weights Spec.pick
  rw [mendOf_at, keepOf_at, validOf_at, hotOf_at, best_at, centreOf_at]
  have h0 : ¬ half < (0 : EReal) := fun h => lt_asymm h half_between.1
  by_cases hr : half < r (ix5 b c 0 i j) <;> by_cases hz : 0 < z (ix5 b c 0 i j) <;>
    simp [hr, hz, h0, half_between.2, centre_word]

/-- The weights of the mask's channel: the specification's pick. -/
theorem again_at (b c : Fin 2) (s : Fin 9) (i j : Fin 512) :
    againOf (validOf r z) (weights x y z r p k) centreOf (ix5 b c s i j)
      = if Spec.pick (near9 x y z p k b c i j) (z (ix5 b c 0 i j)) (r (ix5 b c 0 i j)) = BitVec.ofNat 32 s.val then 1 else 0 := by
  rw [againOf_at, validOf_at, weights_at, centreOf_at]
  unfold Spec.pick
  have h0 : ¬ half < (0 : EReal) := fun h => lt_asymm h half_between.1
  by_cases hr : half < r (ix5 b c 0 i j) <;> by_cases hz : 0 < z (ix5 b c 0 i j) <;>
    simp [hr, hz, h0, half_between.2, centre_word]

/-- A coordinate's channel. -/
theorem chan_at (b c : Fin 2) (s : Fin 9) (i j : Fin 512) (v : EReal) :
    weights x y z r p k (ix5 b c s i j) * v
      = chan (near9 x y z p k b c i j) (z (ix5 b c 0 i j)) (r (ix5 b c 0 i j)) v s.val := by
  rw [weights_at]
  unfold chan
  split_ifs <;> simp

/-- The mask's channel. -/
theorem mask_at (b c : Fin 2) (s : Fin 9) (i j : Fin 512) :
    againOf (validOf r z) (weights x y z r p k) centreOf (ix5 b c s i j) * r (ix5 b c 0 i j)
      = mask (near9 x y z p k b c i j) (z (ix5 b c 0 i j)) (r (ix5 b c 0 i j)) s.val := by
  rw [again_at]
  unfold mask
  split_ifs <;> simp

theorem image_at (A : FVec Ideal S2x2x1x512x512 .f32) (b c : Fin 2) :
    image A ⟨2 * b.val + c.val, by omega⟩ = fun i j => A (ix5 b c 0 i j) := by
  have hb : (⟨(2 * b.val + c.val) / 2, by omega⟩ : Fin 2) = b := Fin.ext (by show _ / 2 = _; omega)
  have hc : (⟨(2 * b.val + c.val) % 2, by omega⟩ : Fin 2) = c := Fin.ext (by show _ % 2 = _; omega)
  unfold image
  funext i j
  simp only [hb, hc]

theorem panel_at (A : FVec Ideal S2x2x2x512x512 .f32) (e : Fin 2) (b c : Fin 2) :
    panel A e ⟨2 * b.val + c.val, by omega⟩ = fun i j => A (ix5 b c e i j) := by
  have hb : (⟨(2 * b.val + c.val) / 2, by omega⟩ : Fin 2) = b := Fin.ext (by show _ / 2 = _; omega)
  have hc : (⟨(2 * b.val + c.val) % 2, by omega⟩ : Fin 2) = c := Fin.ext (by show _ % 2 = _; omega)
  unfold panel
  funext i j
  simp only [hb, hc]

/-- The reference's result is the specification's value: image `2b + c`, channel `12d + 4e + f`. -/
theorem result_at (b c : Fin 2) (d e : Fin 3) (f : Fin 4) (i j : Fin 512) :
    result x y z r p k (ix7 b c d e f i j)
      = value x y z r p k ⟨2 * b.val + c.val, by omega⟩ (12 * d.val + 4 * e.val + f.val) i j := by
  unfold value cell
  have hm : (12 * d.val + 4 * e.val + f.val) % 4 = f.val := by omega
  have hd : (12 * d.val + 4 * e.val + f.val) / 4 = 3 * d.val + e.val := by omega
  simp only [image_at, panel_at, hm, hd]
  unfold result
  have hq := joinOf_at (xyzOf (constant S_ .f32 0x3F800000#32) (weights x y z r p k) (stack3 x y z))
    (againOf (validOf r z) (weights x y z r p k) centreOf) r b c d e i j
  rcases Fin.eq_castSucc_or_eq_last f with ⟨g, rfl⟩ | rfl
  · rw [hq.1 g, xyzOf_at, stack3_at, chan_at]
    fin_cases g <;> rfl
  · exact hq.2.trans (mask_at x y z r p k b c _ i j)

end Cert.ReferenceIdeal.Steps

end
-- ==== Proof.Equal.lean ====
/-
  The kernel's result and the reference's, from the same arguments, are one array.
-/
module

public import proofs.«01_k».proof.Proof.Move
public import proofs.«01_k».proof.Proof.RefValue

@[expose] public section

set_option Elab.async false

noncomputable section

namespace Cert.ReferenceIdeal.Steps

open Cert.ReferenceIdeal Cert.ReferenceIdeal.Gen Idealize.ShloMosaic Idealize.ShloMosaic.TcCoe Idealize.SL.Sem Idealize.ShloMosaic.StableHlo Cert.Spec

/-- The specification's values laid out as `(4, 36, 512, 512)` and recast to the result's shape are the reference's result. -/
theorem result_eq (x y z r : FVec Ideal S2x2x1x512x512 .f32) (p : FVec Ideal S2x2x2x512x512 .f32) (k : FVec Ideal S3x3 .f32)
    (X : (⟨4, ![4, 36, 512, 512]⟩ : Shape).Idx → EReal) (hX : ∀ n c i j, X (ix4 n c i j) = value x y z r p k n c.val i j)
    (h : (⟨4, ![4, 36, 512, 512]⟩ : Shape).ShapeCasts ⟨7, ![2, 2, 3, 3, 4, 512, 512]⟩) :
    result x y z r p k = shapeCast ⟨7, ![2, 2, 3, 3, 4, 512, 512]⟩ X h := by
  funext t
  obtain ⟨b, c, d, e, f, i, j, rfl⟩ : ∃ (b c : Fin 2) (d e : Fin 3) (f : Fin 4) (i j : Fin 512), t = ix7 b c d e f i j :=
    ⟨t 0, t 1, t 2, t 3, t 4, t 5, t 6, funext fun a => by fin_cases a <;> rfl⟩
  rw [result_at, Cert.Move.result_at, hX]

end Cert.ReferenceIdeal.Steps

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import proofs.«01_k».proof.Proof.Equal
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem Cert.Kernel

/-- The reference's run: every execution ends, its arguments unchanged and every counter at zero. -/
theorem frame_reference : Cert.quiescent_ReferenceIdeal := by
  intro m g _
  hlo_run
  · exact fun _ => ⟨trivial, trivial, trivial, trivial, trivial, trivial, trivial⟩
  · exact sem_eq_zero_of_no_sems (sig := Cert.ReferenceIdeal.sig) (by decide) _

/-- The kernel's result and the reference's are the same, whatever the arguments hold. -/
theorem algebraic : Cert.algebraic_KernelIdeal_ReferenceIdeal := by
  intro m g m' g' _ hargs
  refine ⟨_, Cert.KernelIdeal.Block.run m g, ?_⟩
  refine (θ_run Cert.ReferenceIdeal.defs _ _).mono (fun r h c => ⟨(h c).1.trans ?_, (h c).2⟩) (Cert.ReferenceIdeal.Steps.run m' g')
  obtain ⟨h0, h1, h2, h3, h4, -, h6⟩ := hargs c
  rw [Cert.ReferenceIdeal.Steps.ops_result]
  refine Cert.ReferenceIdeal.Steps.result_eq _ _ _ _ _ _ (Cert.KernelIdeal.Block.G m c) (fun n q i j => ?_) _
  show Cert.Spec.value _ _ _ _ _ _ n q.val i j = _
  rw [← h0, ← h1, ← h2, ← h3, ← h4, ← h6]

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, algebraic⟩

end Cert.Proof

end
